-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x4096x4096 .f32) (main_arg1 : FVec F S64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S64x16384 : Shape := ⟨2, ![64, 16384]⟩
abbrev S512x4096 : Shape := ⟨2, ![512, 4096]⟩
abbrev S64x512 : Shape := ⟨2, ![64, 512]⟩
abbrev S4x4096x8 : Shape := ⟨3, ![4, 4096, 8]⟩
abbrev S128x8 : Shape := ⟨2, ![128, 8]⟩
abbrev S_ : Shape := ⟨0, ![]⟩
abbrev S16 : Shape := ⟨1, ![16]⟩
abbrev S1x16 : Shape := ⟨2, ![1, 16]⟩
abbrev S1x128x8 : Shape := ⟨3, ![1, 128, 8]⟩

abbrev nBuf : Table → Nat
  | .hbm => 6
  | .local .tc .vmem => 5
  | .local .scVector .vmem => 5
  | _ => 0

abbrev bufTy : (tb : Table) → Fin (nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S64x16384, .f32⟩
  | .hbm, ⟨4, _⟩ => ⟨S4x4096x8, .i32⟩
  | .hbm, ⟨5, _⟩ => ⟨S4x4096x8, .f32⟩
  | .local .tc .vmem, ⟨0, _⟩ => ⟨S512x4096, .f32⟩
  | .local .tc .vmem, ⟨1, _⟩ => ⟨S512x4096, .f32⟩
  | .local .tc .vmem, ⟨2, _⟩ => ⟨S64x4096, .f32⟩
  | .local .tc .vmem, ⟨3, _⟩ => ⟨S64x512, .f32⟩
  | .local .tc .vmem, ⟨4, _⟩ => ⟨S64x512, .f32⟩
  | .local .scVector .vmem, ⟨0, _⟩ => ⟨S64x512, .f32⟩
  | .local .scVector .vmem, ⟨1, _⟩ => ⟨S128x8, .i32⟩
  | .local .scVector .vmem, ⟨2, _⟩ => ⟨S128x8, .f32⟩
  | .local .scVector .vmem, ⟨3, _⟩ => ⟨S128x8, .i32⟩
  | .local .scVector .vmem, ⟨4, _⟩ => ⟨S128x8, .f32⟩
  | _, _ => ⟨S4x4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c0_i32_62_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_11 : BitVec 32 := 0#32
  let c8_i32 : BitVec 32 := 8#32
  let v31 : BitVec 32 := Scalar.addi c0_i32_11 c8_i32
  let c1_i32_12 : BitVec 32 := 1#32
  ⟨c0_i32_11, v31, c1_i32_12⟩
@[reducible] def k1_t2_loop : Scf.Loop 32 :=
  let c0_i32_64 : BitVec 32 := 0#32
  let c16_i32_65 : BitVec 32 := 16#32
  let v109 : BitVec 32 := Scalar.addi c0_i32_64 c16_i32_65
  let c1_i32_66 : BitVec 32 := 1#32
  ⟨c0_i32_64, v109, c1_i32_66⟩
def k1_off2 (k1_t1 : Fin k1_t1_loop.trips) (k1_t2 : Fin k1_t2_loop.trips) (c0_i32_73 : BitVec 32) : Fin 2 → Nat :=
  let c0_i32_64 : BitVec 32 := 0#32
  let c1_i32_66 : BitVec 32 := 1#32
  let arg13 : BitVec 32 := Scf.iv c0_i32_64 c1_i32_66 k1_t2
  let c4_i32_72 : BitVec 32 := 4#32
  let v152 : BitVec 32 := Scalar.muli arg13 c4_i32_72
  let v153 : BitVec 32 := Scalar.addi v152 c0_i32_73
  let v156 : Index := Scalar.indexCast v153
  let c0_i32_62 : BitVec 32 := 0#32
  let c0_i32_11 : BitVec 32 := 0#32
  let c1_i32_12 : BitVec 32 := 1#32
  let arg12 : BitVec 32 := Scf.iv c0_i32_11 c1_i32_12 k1_t1
  let v103 : BitVec 32 := Scalar.addi c0_i32_62 arg12
  let c16_i32_74 : BitVec 32 := 16#32
  let v155 : BitVec 32 := Scalar.muli v103 c16_i32_74
  let v157 : Index := Scalar.indexCast v155
  ![v156.toNat, v157.toNat]

def k1_chk1 (v106 : IVec S16 32) (v136 : IVec S16 32) : Prop :=
  (∀ a x, ((![v106, v136] : Fin 2 → IVec S16 32) a x).toNat < S128x8.size a) ∧
  (∀ a x, ((![v106, v136] : Fin 2 → IVec S16 32) a x).toNat < S128x8.size a)
theorem k1_idx1_inb : ∀ (v106 : IVec S16 32) (v136 : IVec S16 32) (k1_hw1 : k1_chk1 v106 v136), ∀ a x, ((![v106, v136] : Fin 2 → IVec S16 32) a x).toNat < S128x8.size a := fun v106 v136 k1_hw1 => k1_hw1.1
theorem k1_idx2_inb : ∀ (v106 : IVec S16 32) (v136 : IVec S16 32) (k1_hw1 : k1_chk1 v106 v136), ∀ a x, ((![v106, v136] : Fin 2 → IVec S16 32) a x).toNat < S128x8.size a := fun v106 v136 k1_hw1 => k1_hw1.2

def k1_chk2 (v106 : IVec S16 32) (v138 : IVec S16 32) : Prop :=
  (∀ a x, ((![v106, v138] : Fin 2 → IVec S16 32) a x).toNat < S128x8.size a) ∧
  (∀ a x, ((![v106, v138] : Fin 2 → IVec S16 32) a x).toNat < S128x8.size a)
theorem k1_idx3_inb : ∀ (v106 : IVec S16 32) (v138 : IVec S16 32) (k1_hw2 : k1_chk2 v106 v138), ∀ a x, ((![v106, v138] : Fin 2 → IVec S16 32) a x).toNat < S128x8.size a := fun v106 v138 k1_hw2 => k1_hw2.1
theorem k1_idx4_inb : ∀ (v106 : IVec S16 32) (v138 : IVec S16 32) (k1_hw2 : k1_chk2 v106 v138), ∀ a x, ((![v106, v138] : Fin 2 → IVec S16 32) a x).toNat < S128x8.size a := fun v106 v138 k1_hw2 => k1_hw2.2

def k1_chk3 (v106 : IVec S16 32) (v140 : IVec S16 32) : Prop :=
  (∀ a x, ((![v106, v140] : Fin 2 → IVec S16 32) a x).toNat < S128x8.size a) ∧
  (∀ a x, ((![v106, v140] : Fin 2 → IVec S16 32) a x).toNat < S128x8.size a)
theorem k1_idx5_inb : ∀ (v106 : IVec S16 32) (v140 : IVec S16 32) (k1_hw3 : k1_chk3 v106 v140), ∀ a x, ((![v106, v140] : Fin 2 → IVec S16 32) a x).toNat < S128x8.size a := fun v106 v140 k1_hw3 => k1_hw3.1
theorem k1_idx6_inb : ∀ (v106 : IVec S16 32) (v140 : IVec S16 32) (k1_hw3 : k1_chk3 v106 v140), ∀ a x, ((![v106, v140] : Fin 2 → IVec S16 32) a x).toNat < S128x8.size a := fun v106 v140 k1_hw3 => k1_hw3.2

def k1_chk4 (v106 : IVec S16 32) (v142 : IVec S16 32) : Prop :=
  (∀ a x, ((![v106, v142] : Fin 2 → IVec S16 32) a x).toNat < S128x8.size a) ∧
  (∀ a x, ((![v106, v142] : Fin 2 → IVec S16 32) a x).toNat < S128x8.size a)
theorem k1_idx7_inb : ∀ (v106 : IVec S16 32) (v142 : IVec S16 32) (k1_hw4 : k1_chk4 v106 v142), ∀ a x, ((![v106, v142] : Fin 2 → IVec S16 32) a x).toNat < S128x8.size a := fun v106 v142 k1_hw4 => k1_hw4.1
theorem k1_idx8_inb : ∀ (v106 : IVec S16 32) (v142 : IVec S16 32) (k1_hw4 : k1_chk4 v106 v142), ∀ a x, ((![v106, v142] : Fin 2 → IVec S16 32) a x).toNat < S128x8.size a := fun v106 v142 k1_hw4 => k1_hw4.2

def k1_chk5 (v106 : IVec S16 32) (v144 : IVec S16 32) : Prop :=
  (∀ a x, ((![v106, v144] : Fin 2 → IVec S16 32) a x).toNat < S128x8.size a) ∧
  (∀ a x, ((![v106, v144] : Fin 2 → IVec S16 32) a x).toNat < S128x8.size a)
theorem k1_idx9_inb : ∀ (v106 : IVec S16 32) (v144 : IVec S16 32) (k1_hw5 : k1_chk5 v106 v144), ∀ a x, ((![v106, v144] : Fin 2 → IVec S16 32) a x).toNat < S128x8.size a := fun v106 v144 k1_hw5 => k1_hw5.1
theorem k1_idx10_inb : ∀ (v106 : IVec S16 32) (v144 : IVec S16 32) (k1_hw5 : k1_chk5 v106 v144), ∀ a x, ((![v106, v144] : Fin 2 → IVec S16 32) a x).toNat < S128x8.size a := fun v106 v144 k1_hw5 => k1_hw5.2

def k1_chk6 (v106 : IVec S16 32) (v146 : IVec S16 32) : Prop :=
  (∀ a x, ((![v106, v146] : Fin 2 → IVec S16 32) a x).toNat < S128x8.size a) ∧
  (∀ a x, ((![v106, v146] : Fin 2 → IVec S16 32) a x).toNat < S128x8.size a)
theorem k1_idx11_inb : ∀ (v106 : IVec S16 32) (v146 : IVec S16 32) (k1_hw6 : k1_chk6 v106 v146), ∀ a x, ((![v106, v146] : Fin 2 → IVec S16 32) a x).toNat < S128x8.size a := fun v106 v146 k1_hw6 => k1_hw6.1
theorem k1_idx12_inb : ∀ (v106 : IVec S16 32) (v146 : IVec S16 32) (k1_hw6 : k1_chk6 v106 v146), ∀ a x, ((![v106, v146] : Fin 2 → IVec S16 32) a x).toNat < S128x8.size a := fun v106 v146 k1_hw6 => k1_hw6.2

def k1_chk7 (v106 : IVec S16 32) (v148 : IVec S16 32) : Prop :=
  (∀ a x, ((![v106, v148] : Fin 2 → IVec S16 32) a x).toNat < S128x8.size a) ∧
  (∀ a x, ((![v106, v148] : Fin 2 → IVec S16 32) a x).toNat < S128x8.size a)
theorem k1_idx13_inb : ∀ (v106 : IVec S16 32) (v148 : IVec S16 32) (k1_hw7 : k1_chk7 v106 v148), ∀ a x, ((![v106, v148] : Fin 2 → IVec S16 32) a x).toNat < S128x8.size a := fun v106 v148 k1_hw7 => k1_hw7.1
theorem k1_idx14_inb : ∀ (v106 : IVec S16 32) (v148 : IVec S16 32) (k1_hw7 : k1_chk7 v106 v148), ∀ a x, ((![v106, v148] : Fin 2 → IVec S16 32) a x).toNat < S128x8.size a := fun v106 v148 k1_hw7 => k1_hw7.2

def k1_chk8 (v106 : IVec S16 32) (v150 : IVec S16 32) : Prop :=
  (∀ a x, ((![v106, v150] : Fin 2 → IVec S16 32) a x).toNat < S128x8.size a) ∧
  (∀ a x, ((![v106, v150] : Fin 2 → IVec S16 32) a x).toNat < S128x8.size a)
theorem k1_idx15_inb : ∀ (v106 : IVec S16 32) (v150 : IVec S16 32) (k1_hw8 : k1_chk8 v106 v150), ∀ a x, ((![v106, v150] : Fin 2 → IVec S16 32) a x).toNat < S128x8.size a := fun v106 v150 k1_hw8 => k1_hw8.1
theorem k1_idx16_inb : ∀ (v106 : IVec S16 32) (v150 : IVec S16 32) (k1_hw8 : k1_chk8 v106 v150), ∀ a x, ((![v106, v150] : Fin 2 → IVec S16 32) a x).toNat < S128x8.size a := fun v106 v150 k1_hw8 => k1_hw8.2
def k1_off3 (i : grid1.Coords) (c0_i32_14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let c4096_i32_4 : BitVec 32 := 4096#32
  let c0_i32_5 : BitVec 32 := 0#32
  let v20 : BitVec 1 := Scalar.cmpi .eq c4096_i32_4 c0_i32_5
  let c1_i32_6 : BitVec 32 := 1#32
  let v21 : BitVec 32 := Scalar.select v20 c1_i32_6 c4096_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v32 : BitVec 32 := Scalar.addi v29 c0_i32_14
  let c0_i32_15 : BitVec 32 := 0#32
  ![v19.toNat, v32.toNat, 0]
@[reducible] def k1_t3_loop : Scf.Loop 32 :=
  let c0_i32_20 : BitVec 32 := 0#32
  let c8_i32_21 : BitVec 32 := 8#32
  let v41 : BitVec 32 := Scalar.addi c0_i32_20 c8_i32_21
  let c1_i32_22 : BitVec 32 := 1#32
  ⟨c0_i32_20, v41, c1_i32_22⟩
@[reducible] def k1_t4_loop : Scf.Loop 32 :=
  let c0_i32_64 : BitVec 32 := 0#32
  let c16_i32_65 : BitVec 32 := 16#32
  let v109 : BitVec 32 := Scalar.addi c0_i32_64 c16_i32_65
  let c1_i32_66 : BitVec 32 := 1#32
  ⟨c0_i32_64, v109, c1_i32_66⟩
def k1_off4 (k1_t3 : Fin k1_t3_loop.trips) (k1_t4 : Fin k1_t4_loop.trips) (c0_i32_73 : BitVec 32) : Fin 2 → Nat :=
  let c0_i32_64 : BitVec 32 := 0#32
  let c1_i32_66 : BitVec 32 := 1#32
  let arg13 : BitVec 32 := Scf.iv c0_i32_64 c1_i32_66 k1_t4
  let c4_i32_72 : BitVec 32 := 4#32
  let v152 : BitVec 32 := Scalar.muli arg13 c4_i32_72
  let v153 : BitVec 32 := Scalar.addi v152 c0_i32_73
  let v156 : Index := Scalar.indexCast v153
  let c8_i32_62 : BitVec 32 := 8#32
  let c0_i32_20 : BitVec 32 := 0#32
  let c1_i32_22 : BitVec 32 := 1#32
  let arg12 : BitVec 32 := Scf.iv c0_i32_20 c1_i32_22 k1_t3
  let v103 : BitVec 32 := Scalar.addi c8_i32_62 arg12
  let c16_i32_74 : BitVec 32 := 16#32
  let v155 : BitVec 32 := Scalar.muli v103 c16_i32_74
  let v157 : Index := Scalar.indexCast v155
  ![v156.toNat, v157.toNat]

def k1_chk9 (v106 : IVec S16 32) (v136 : IVec S16 32) : Prop :=
  (∀ a x, ((![v106, v136] : Fin 2 → IVec S16 32) a x).toNat < S128x8.size a) ∧
  (∀ a x, ((![v106, v136] : Fin 2 → IVec S16 32) a x).toNat < S128x8.size a)
theorem k1_idx17_inb : ∀ (v106 : IVec S16 32) (v136 : IVec S16 32) (k1_hw9 : k1_chk9 v106 v136), ∀ a x, ((![v106, v136] : Fin 2 → IVec S16 32) a x).toNat < S128x8.size a := fun v106 v136 k1_hw9 => k1_hw9.1
theorem k1_idx18_inb : ∀ (v106 : IVec S16 32) (v136 : IVec S16 32) (k1_hw9 : k1_chk9 v106 v136), ∀ a x, ((![v106, v136] : Fin 2 → IVec S16 32) a x).toNat < S128x8.size a := fun v106 v136 k1_hw9 => k1_hw9.2

def k1_chk10 (v106 : IVec S16 32) (v138 : IVec S16 32) : Prop :=
  (∀ a x, ((![v106, v138] : Fin 2 → IVec S16 32) a x).toNat < S128x8.size a) ∧
  (∀ a x, ((![v106, v138] : Fin 2 → IVec S16 32) a x).toNat < S128x8.size a)
theorem k1_idx19_inb : ∀ (v106 : IVec S16 32) (v138 : IVec S16 32) (k1_hw10 : k1_chk10 v106 v138), ∀ a x, ((![v106, v138] : Fin 2 → IVec S16 32) a x).toNat < S128x8.size a := fun v106 v138 k1_hw10 => k1_hw10.1
theorem k1_idx20_inb : ∀ (v106 : IVec S16 32) (v138 : IVec S16 32) (k1_hw10 : k1_chk10 v106 v138), ∀ a x, ((![v106, v138] : Fin 2 → IVec S16 32) a x).toNat < S128x8.size a := fun v106 v138 k1_hw10 => k1_hw10.2

def k1_chk11 (v106 : IVec S16 32) (v140 : IVec S16 32) : Prop :=
  (∀ a x, ((![v106, v140] : Fin 2 → IVec S16 32) a x).toNat < S128x8.size a) ∧
  (∀ a x, ((![v106, v140] : Fin 2 → IVec S16 32) a x).toNat < S128x8.size a)
theorem k1_idx21_inb : ∀ (v106 : IVec S16 32) (v140 : IVec S16 32) (k1_hw11 : k1_chk11 v106 v140), ∀ a x, ((![v106, v140] : Fin 2 → IVec S16 32) a x).toNat < S128x8.size a := fun v106 v140 k1_hw11 => k1_hw11.1
theorem k1_idx22_inb : ∀ (v106 : IVec S16 32) (v140 : IVec S16 32) (k1_hw11 : k1_chk11 v106 v140), ∀ a x, ((![v106, v140] : Fin 2 → IVec S16 32) a x).toNat < S128x8.size a := fun v106 v140 k1_hw11 => k1_hw11.2

def k1_chk12 (v106 : IVec S16 32) (v142 : IVec S16 32) : Prop :=
  (∀ a x, ((![v106, v142] : Fin 2 → IVec S16 32) a x).toNat < S128x8.size a) ∧
  (∀ a x, ((![v106, v142] : Fin 2 → IVec S16 32) a x).toNat < S128x8.size a)
theorem k1_idx23_inb : ∀ (v106 : IVec S16 32) (v142 : IVec S16 32) (k1_hw12 : k1_chk12 v106 v142), ∀ a x, ((![v106, v142] : Fin 2 → IVec S16 32) a x).toNat < S128x8.size a := fun v106 v142 k1_hw12 => k1_hw12.1
theorem k1_idx24_inb : ∀ (v106 : IVec S16 32) (v142 : IVec S16 32) (k1_hw12 : k1_chk12 v106 v142), ∀ a x, ((![v106, v142] : Fin 2 → IVec S16 32) a x).toNat < S128x8.size a := fun v106 v142 k1_hw12 => k1_hw12.2

def k1_chk13 (v106 : IVec S16 32) (v144 : IVec S16 32) : Prop :=
  (∀ a x, ((![v106, v144] : Fin 2 → IVec S16 32) a x).toNat < S128x8.size a) ∧
  (∀ a x, ((![v106, v144] : Fin 2 → IVec S16 32) a x).toNat < S128x8.size a)
theorem k1_idx25_inb : ∀ (v106 : IVec S16 32) (v144 : IVec S16 32) (k1_hw13 : k1_chk13 v106 v144), ∀ a x, ((![v106, v144] : Fin 2 → IVec S16 32) a x).toNat < S128x8.size a := fun v106 v144 k1_hw13 => k1_hw13.1
theorem k1_idx26_inb : ∀ (v106 : IVec S16 32) (v144 : IVec S16 32) (k1_hw13 : k1_chk13 v106 v144), ∀ a x, ((![v106, v144] : Fin 2 → IVec S16 32) a x).toNat < S128x8.size a := fun v106 v144 k1_hw13 => k1_hw13.2

def k1_chk14 (v106 : IVec S16 32) (v146 : IVec S16 32) : Prop :=
  (∀ a x, ((![v106, v146] : Fin 2 → IVec S16 32) a x).toNat < S128x8.size a) ∧
  (∀ a x, ((![v106, v146] : Fin 2 → IVec S16 32) a x).toNat < S128x8.size a)
theorem k1_idx27_inb : ∀ (v106 : IVec S16 32) (v146 : IVec S16 32) (k1_hw14 : k1_chk14 v106 v146), ∀ a x, ((![v106, v146] : Fin 2 → IVec S16 32) a x).toNat < S128x8.size a := fun v106 v146 k1_hw14 => k1_hw14.1
theorem k1_idx28_inb : ∀ (v106 : IVec S16 32) (v146 : IVec S16 32) (k1_hw14 : k1_chk14 v106 v146), ∀ a x, ((![v106, v146] : Fin 2 → IVec S16 32) a x).toNat < S128x8.size a := fun v106 v146 k1_hw14 => k1_hw14.2

def k1_chk15 (v106 : IVec S16 32) (v148 : IVec S16 32) : Prop :=
  (∀ a x, ((![v106, v148] : Fin 2 → IVec S16 32) a x).toNat < S128x8.size a) ∧
  (∀ a x, ((![v106, v148] : Fin 2 → IVec S16 32) a x).toNat < S128x8.size a)
theorem k1_idx29_inb : ∀ (v106 : IVec S16 32) (v148 : IVec S16 32) (k1_hw15 : k1_chk15 v106 v148), ∀ a x, ((![v106, v148] : Fin 2 → IVec S16 32) a x).toNat < S128x8.size a := fun v106 v148 k1_hw15 => k1_hw15.1
theorem k1_idx30_inb : ∀ (v106 : IVec S16 32) (v148 : IVec S16 32) (k1_hw15 : k1_chk15 v106 v148), ∀ a x, ((![v106, v148] : Fin 2 → IVec S16 32) a x).toNat < S128x8.size a := fun v106 v148 k1_hw15 => k1_hw15.2

def k1_chk16 (v106 : IVec S16 32) (v150 : IVec S16 32) : Prop :=
  (∀ a x, ((![v106, v150] : Fin 2 → IVec S16 32) a x).toNat < S128x8.size a) ∧
  (∀ a x, ((![v106, v150] : Fin 2 → IVec S16 32) a x).toNat < S128x8.size a)
theorem k1_idx31_inb : ∀ (v106 : IVec S16 32) (v150 : IVec S16 32) (k1_hw16 : k1_chk16 v106 v150), ∀ a x, ((![v106, v150] : Fin 2 → IVec S16 32) a x).toNat < S128x8.size a := fun v106 v150 k1_hw16 => k1_hw16.1
theorem k1_idx32_inb : ∀ (v106 : IVec S16 32) (v150 : IVec S16 32) (k1_hw16 : k1_chk16 v106 v150), ∀ a x, ((![v106, v150] : Fin 2 → IVec S16 32) a x).toNat < S128x8.size a := fun v106 v150 k1_hw16 => k1_hw16.2
@[reducible] def k1_t5_loop : Scf.Loop 32 :=
  let c0_i32_33 : BitVec 32 := 0#32
  let c8_i32_34 : BitVec 32 := 8#32
  let v59 : BitVec 32 := Scalar.addi c0_i32_33 c8_i32_34
  let c1_i32_35 : BitVec 32 := 1#32
  ⟨c0_i32_33, v59, c1_i32_35⟩
@[reducible] def k1_t6_loop : Scf.Loop 32 :=
  let c0_i32_64 : BitVec 32 := 0#32
  let c16_i32_65 : BitVec 32 := 16#32
  let v109 : BitVec 32 := Scalar.addi c0_i32_64 c16_i32_65
  let c1_i32_66 : BitVec 32 := 1#32
  ⟨c0_i32_64, v109, c1_i32_66⟩
def k1_off5 (k1_t5 : Fin k1_t5_loop.trips) (k1_t6 : Fin k1_t6_loop.trips) (c0_i32_73 : BitVec 32) : Fin 2 → Nat :=
  let c0_i32_64 : BitVec 32 := 0#32
  let c1_i32_66 : BitVec 32 := 1#32
  let arg13 : BitVec 32 := Scf.iv c0_i32_64 c1_i32_66 k1_t6
  let c4_i32_72 : BitVec 32 := 4#32
  let v152 : BitVec 32 := Scalar.muli arg13 c4_i32_72
  let v153 : BitVec 32 := Scalar.addi v152 c0_i32_73
  let v156 : Index := Scalar.indexCast v153
  let c16_i32 : BitVec 32 := 16#32
  let c0_i32_33 : BitVec 32 := 0#32
  let c1_i32_35 : BitVec 32 := 1#32
  let arg12 : BitVec 32 := Scf.iv c0_i32_33 c1_i32_35 k1_t5
  let v103 : BitVec 32 := Scalar.addi c16_i32 arg12
  let c16_i32_74 : BitVec 32 := 16#32
  let v155 : BitVec 32 := Scalar.muli v103 c16_i32_74
  let v157 : Index := Scalar.indexCast v155
  ![v156.toNat, v157.toNat]

def k1_chk17 (v106 : IVec S16 32) (v136 : IVec S16 32) : Prop :=
  (∀ a x, ((![v106, v136] : Fin 2 → IVec S16 32) a x).toNat < S128x8.size a) ∧
  (∀ a x, ((![v106, v136] : Fin 2 → IVec S16 32) a x).toNat < S128x8.size a)
theorem k1_idx33_inb : ∀ (v106 : IVec S16 32) (v136 : IVec S16 32) (k1_hw17 : k1_chk17 v106 v136), ∀ a x, ((![v106, v136] : Fin 2 → IVec S16 32) a x).toNat < S128x8.size a := fun v106 v136 k1_hw17 => k1_hw17.1
theorem k1_idx34_inb : ∀ (v106 : IVec S16 32) (v136 : IVec S16 32) (k1_hw17 : k1_chk17 v106 v136), ∀ a x, ((![v106, v136] : Fin 2 → IVec S16 32) a x).toNat < S128x8.size a := fun v106 v136 k1_hw17 => k1_hw17.2

def k1_chk18 (v106 : IVec S16 32) (v138 : IVec S16 32) : Prop :=
  (∀ a x, ((![v106, v138] : Fin 2 → IVec S16 32) a x).toNat < S128x8.size a) ∧
  (∀ a x, ((![v106, v138] : Fin 2 → IVec S16 32) a x).toNat < S128x8.size a)
theorem k1_idx35_inb : ∀ (v106 : IVec S16 32) (v138 : IVec S16 32) (k1_hw18 : k1_chk18 v106 v138), ∀ a x, ((![v106, v138] : Fin 2 → IVec S16 32) a x).toNat < S128x8.size a := fun v106 v138 k1_hw18 => k1_hw18.1
theorem k1_idx36_inb : ∀ (v106 : IVec S16 32) (v138 : IVec S16 32) (k1_hw18 : k1_chk18 v106 v138), ∀ a x, ((![v106, v138] : Fin 2 → IVec S16 32) a x).toNat < S128x8.size a := fun v106 v138 k1_hw18 => k1_hw18.2

def k1_chk19 (v106 : IVec S16 32) (v140 : IVec S16 32) : Prop :=
  (∀ a x, ((![v106, v140] : Fin 2 → IVec S16 32) a x).toNat < S128x8.size a) ∧
  (∀ a x, ((![v106, v140] : Fin 2 → IVec S16 32) a x).toNat < S128x8.size a)
theorem k1_idx37_inb : ∀ (v106 : IVec S16 32) (v140 : IVec S16 32) (k1_hw19 : k1_chk19 v106 v140), ∀ a x, ((![v106, v140] : Fin 2 → IVec S16 32) a x).toNat < S128x8.size a := fun v106 v140 k1_hw19 => k1_hw19.1
theorem k1_idx38_inb : ∀ (v106 : IVec S16 32) (v140 : IVec S16 32) (k1_hw19 : k1_chk19 v106 v140), ∀ a x, ((![v106, v140] : Fin 2 → IVec S16 32) a x).toNat < S128x8.size a := fun v106 v140 k1_hw19 => k1_hw19.2

def k1_chk20 (v106 : IVec S16 32) (v142 : IVec S16 32) : Prop :=
  (∀ a x, ((![v106, v142] : Fin 2 → IVec S16 32) a x).toNat < S128x8.size a) ∧
  (∀ a x, ((![v106, v142] : Fin 2 → IVec S16 32) a x).toNat < S128x8.size a)
theorem k1_idx39_inb : ∀ (v106 : IVec S16 32) (v142 : IVec S16 32) (k1_hw20 : k1_chk20 v106 v142), ∀ a x, ((![v106, v142] : Fin 2 → IVec S16 32) a x).toNat < S128x8.size a := fun v106 v142 k1_hw20 => k1_hw20.1
theorem k1_idx40_inb : ∀ (v106 : IVec S16 32) (v142 : IVec S16 32) (k1_hw20 : k1_chk20 v106 v142), ∀ a x, ((![v106, v142] : Fin 2 → IVec S16 32) a x).toNat < S128x8.size a := fun v106 v142 k1_hw20 => k1_hw20.2

def k1_chk21 (v106 : IVec S16 32) (v144 : IVec S16 32) : Prop :=
  (∀ a x, ((![v106, v144] : Fin 2 → IVec S16 32) a x).toNat < S128x8.size a) ∧
  (∀ a x, ((![v106, v144] : Fin 2 → IVec S16 32) a x).toNat < S128x8.size a)
theorem k1_idx41_inb : ∀ (v106 : IVec S16 32) (v144 : IVec S16 32) (k1_hw21 : k1_chk21 v106 v144), ∀ a x, ((![v106, v144] : Fin 2 → IVec S16 32) a x).toNat < S128x8.size a := fun v106 v144 k1_hw21 => k1_hw21.1
theorem k1_idx42_inb : ∀ (v106 : IVec S16 32) (v144 : IVec S16 32) (k1_hw21 : k1_chk21 v106 v144), ∀ a x, ((![v106, v144] : Fin 2 → IVec S16 32) a x).toNat < S128x8.size a := fun v106 v144 k1_hw21 => k1_hw21.2

def k1_chk22 (v106 : IVec S16 32) (v146 : IVec S16 32) : Prop :=
  (∀ a x, ((![v106, v146] : Fin 2 → IVec S16 32) a x).toNat < S128x8.size a) ∧
  (∀ a x, ((![v106, v146] : Fin 2 → IVec S16 32) a x).toNat < S128x8.size a)
theorem k1_idx43_inb : ∀ (v106 : IVec S16 32) (v146 : IVec S16 32) (k1_hw22 : k1_chk22 v106 v146), ∀ a x, ((![v106, v146] : Fin 2 → IVec S16 32) a x).toNat < S128x8.size a := fun v106 v146 k1_hw22 => k1_hw22.1
theorem k1_idx44_inb : ∀ (v106 : IVec S16 32) (v146 : IVec S16 32) (k1_hw22 : k1_chk22 v106 v146), ∀ a x, ((![v106, v146] : Fin 2 → IVec S16 32) a x).toNat < S128x8.size a := fun v106 v146 k1_hw22 => k1_hw22.2

def k1_chk23 (v106 : IVec S16 32) (v148 : IVec S16 32) : Prop :=
  (∀ a x, ((![v106, v148] : Fin 2 → IVec S16 32) a x).toNat < S128x8.size a) ∧
  (∀ a x, ((![v106, v148] : Fin 2 → IVec S16 32) a x).toNat < S128x8.size a)
theorem k1_idx45_inb : ∀ (v106 : IVec S16 32) (v148 : IVec S16 32) (k1_hw23 : k1_chk23 v106 v148), ∀ a x, ((![v106, v148] : Fin 2 → IVec S16 32) a x).toNat < S128x8.size a := fun v106 v148 k1_hw23 => k1_hw23.1
theorem k1_idx46_inb : ∀ (v106 : IVec S16 32) (v148 : IVec S16 32) (k1_hw23 : k1_chk23 v106 v148), ∀ a x, ((![v106, v148] : Fin 2 → IVec S16 32) a x).toNat < S128x8.size a := fun v106 v148 k1_hw23 => k1_hw23.2

def k1_chk24 (v106 : IVec S16 32) (v150 : IVec S16 32) : Prop :=
  (∀ a x, ((![v106, v150] : Fin 2 → IVec S16 32) a x).toNat < S128x8.size a) ∧
  (∀ a x, ((![v106, v150] : Fin 2 → IVec S16 32) a x).toNat < S128x8.size a)
theorem k1_idx47_inb : ∀ (v106 : IVec S16 32) (v150 : IVec S16 32) (k1_hw24 : k1_chk24 v106 v150), ∀ a x, ((![v106, v150] : Fin 2 → IVec S16 32) a x).toNat < S128x8.size a := fun v106 v150 k1_hw24 => k1_hw24.1
theorem k1_idx48_inb : ∀ (v106 : IVec S16 32) (v150 : IVec S16 32) (k1_hw24 : k1_chk24 v106 v150), ∀ a x, ((![v106, v150] : Fin 2 → IVec S16 32) a x).toNat < S128x8.size a := fun v106 v150 k1_hw24 => k1_hw24.2
@[reducible] def k1_t7_loop : Scf.Loop 32 :=
  let c0_i32_46 : BitVec 32 := 0#32
  let c8_i32_47 : BitVec 32 := 8#32
  let v77 : BitVec 32 := Scalar.addi c0_i32_46 c8_i32_47
  let c1_i32_48 : BitVec 32 := 1#32
  ⟨c0_i32_46, v77, c1_i32_48⟩
@[reducible] def k1_t8_loop : Scf.Loop 32 :=
  let c0_i32_63 : BitVec 32 := 0#32
  let c16_i32_64 : BitVec 32 := 16#32
  let v109 : BitVec 32 := Scalar.addi c0_i32_63 c16_i32_64
  let c1_i32_65 : BitVec 32 := 1#32
  ⟨c0_i32_63, v109, c1_i32_65⟩
def k1_off6 (k1_t7 : Fin k1_t7_loop.trips) (k1_t8 : Fin k1_t8_loop.trips) (c0_i32_72 : BitVec 32) : Fin 2 → Nat :=
  let c0_i32_63 : BitVec 32 := 0#32
  let c1_i32_65 : BitVec 32 := 1#32
  let arg13 : BitVec 32 := Scf.iv c0_i32_63 c1_i32_65 k1_t8
  let c4_i32_71 : BitVec 32 := 4#32
  let v152 : BitVec 32 := Scalar.muli arg13 c4_i32_71
  let v153 : BitVec 32 := Scalar.addi v152 c0_i32_72
  let v156 : Index := Scalar.indexCast v153
  let c24_i32 : BitVec 32 := 24#32
  let c0_i32_46 : BitVec 32 := 0#32
  let c1_i32_48 : BitVec 32 := 1#32
  let arg12 : BitVec 32 := Scf.iv c0_i32_46 c1_i32_48 k1_t7
  let v103 : BitVec 32 := Scalar.addi c24_i32 arg12
  let c16_i32_73 : BitVec 32 := 16#32
  let v155 : BitVec 32 := Scalar.muli v103 c16_i32_73
  let v157 : Index := Scalar.indexCast v155
  ![v156.toNat, v157.toNat]

def k1_chk25 (v106 : IVec S16 32) (v136 : IVec S16 32) : Prop :=
  (∀ a x, ((![v106, v136] : Fin 2 → IVec S16 32) a x).toNat < S128x8.size a) ∧
  (∀ a x, ((![v106, v136] : Fin 2 → IVec S16 32) a x).toNat < S128x8.size a)
theorem k1_idx49_inb : ∀ (v106 : IVec S16 32) (v136 : IVec S16 32) (k1_hw25 : k1_chk25 v106 v136), ∀ a x, ((![v106, v136] : Fin 2 → IVec S16 32) a x).toNat < S128x8.size a := fun v106 v136 k1_hw25 => k1_hw25.1
theorem k1_idx50_inb : ∀ (v106 : IVec S16 32) (v136 : IVec S16 32) (k1_hw25 : k1_chk25 v106 v136), ∀ a x, ((![v106, v136] : Fin 2 → IVec S16 32) a x).toNat < S128x8.size a := fun v106 v136 k1_hw25 => k1_hw25.2

def k1_chk26 (v106 : IVec S16 32) (v138 : IVec S16 32) : Prop :=
  (∀ a x, ((![v106, v138] : Fin 2 → IVec S16 32) a x).toNat < S128x8.size a) ∧
  (∀ a x, ((![v106, v138] : Fin 2 → IVec S16 32) a x).toNat < S128x8.size a)
theorem k1_idx51_inb : ∀ (v106 : IVec S16 32) (v138 : IVec S16 32) (k1_hw26 : k1_chk26 v106 v138), ∀ a x, ((![v106, v138] : Fin 2 → IVec S16 32) a x).toNat < S128x8.size a := fun v106 v138 k1_hw26 => k1_hw26.1
theorem k1_idx52_inb : ∀ (v106 : IVec S16 32) (v138 : IVec S16 32) (k1_hw26 : k1_chk26 v106 v138), ∀ a x, ((![v106, v138] : Fin 2 → IVec S16 32) a x).toNat < S128x8.size a := fun v106 v138 k1_hw26 => k1_hw26.2

def k1_chk27 (v106 : IVec S16 32) (v140 : IVec S16 32) : Prop :=
  (∀ a x, ((![v106, v140] : Fin 2 → IVec S16 32) a x).toNat < S128x8.size a) ∧
  (∀ a x, ((![v106, v140] : Fin 2 → IVec S16 32) a x).toNat < S128x8.size a)
theorem k1_idx53_inb : ∀ (v106 : IVec S16 32) (v140 : IVec S16 32) (k1_hw27 : k1_chk27 v106 v140), ∀ a x, ((![v106, v140] : Fin 2 → IVec S16 32) a x).toNat < S128x8.size a := fun v106 v140 k1_hw27 => k1_hw27.1
theorem k1_idx54_inb : ∀ (v106 : IVec S16 32) (v140 : IVec S16 32) (k1_hw27 : k1_chk27 v106 v140), ∀ a x, ((![v106, v140] : Fin 2 → IVec S16 32) a x).toNat < S128x8.size a := fun v106 v140 k1_hw27 => k1_hw27.2

def k1_chk28 (v106 : IVec S16 32) (v142 : IVec S16 32) : Prop :=
  (∀ a x, ((![v106, v142] : Fin 2 → IVec S16 32) a x).toNat < S128x8.size a) ∧
  (∀ a x, ((![v106, v142] : Fin 2 → IVec S16 32) a x).toNat < S128x8.size a)
theorem k1_idx55_inb : ∀ (v106 : IVec S16 32) (v142 : IVec S16 32) (k1_hw28 : k1_chk28 v106 v142), ∀ a x, ((![v106, v142] : Fin 2 → IVec S16 32) a x).toNat < S128x8.size a := fun v106 v142 k1_hw28 => k1_hw28.1
theorem k1_idx56_inb : ∀ (v106 : IVec S16 32) (v142 : IVec S16 32) (k1_hw28 : k1_chk28 v106 v142), ∀ a x, ((![v106, v142] : Fin 2 → IVec S16 32) a x).toNat < S128x8.size a := fun v106 v142 k1_hw28 => k1_hw28.2

def k1_chk29 (v106 : IVec S16 32) (v144 : IVec S16 32) : Prop :=
  (∀ a x, ((![v106, v144] : Fin 2 → IVec S16 32) a x).toNat < S128x8.size a) ∧
  (∀ a x, ((![v106, v144] : Fin 2 → IVec S16 32) a x).toNat < S128x8.size a)
theorem k1_idx57_inb : ∀ (v106 : IVec S16 32) (v144 : IVec S16 32) (k1_hw29 : k1_chk29 v106 v144), ∀ a x, ((![v106, v144] : Fin 2 → IVec S16 32) a x).toNat < S128x8.size a := fun v106 v144 k1_hw29 => k1_hw29.1
theorem k1_idx58_inb : ∀ (v106 : IVec S16 32) (v144 : IVec S16 32) (k1_hw29 : k1_chk29 v106 v144), ∀ a x, ((![v106, v144] : Fin 2 → IVec S16 32) a x).toNat < S128x8.size a := fun v106 v144 k1_hw29 => k1_hw29.2

def k1_chk30 (v106 : IVec S16 32) (v146 : IVec S16 32) : Prop :=
  (∀ a x, ((![v106, v146] : Fin 2 → IVec S16 32) a x).toNat < S128x8.size a) ∧
  (∀ a x, ((![v106, v146] : Fin 2 → IVec S16 32) a x).toNat < S128x8.size a)
theorem k1_idx59_inb : ∀ (v106 : IVec S16 32) (v146 : IVec S16 32) (k1_hw30 : k1_chk30 v106 v146), ∀ a x, ((![v106, v146] : Fin 2 → IVec S16 32) a x).toNat < S128x8.size a := fun v106 v146 k1_hw30 => k1_hw30.1
theorem k1_idx60_inb : ∀ (v106 : IVec S16 32) (v146 : IVec S16 32) (k1_hw30 : k1_chk30 v106 v146), ∀ a x, ((![v106, v146] : Fin 2 → IVec S16 32) a x).toNat < S128x8.size a := fun v106 v146 k1_hw30 => k1_hw30.2

def k1_chk31 (v106 : IVec S16 32) (v148 : IVec S16 32) : Prop :=
  (∀ a x, ((![v106, v148] : Fin 2 → IVec S16 32) a x).toNat < S128x8.size a) ∧
  (∀ a x, ((![v106, v148] : Fin 2 → IVec S16 32) a x).toNat < S128x8.size a)
theorem k1_idx61_inb : ∀ (v106 : IVec S16 32) (v148 : IVec S16 32) (k1_hw31 : k1_chk31 v106 v148), ∀ a x, ((![v106, v148] : Fin 2 → IVec S16 32) a x).toNat < S128x8.size a := fun v106 v148 k1_hw31 => k1_hw31.1
theorem k1_idx62_inb : ∀ (v106 : IVec S16 32) (v148 : IVec S16 32) (k1_hw31 : k1_chk31 v106 v148), ∀ a x, ((![v106, v148] : Fin 2 → IVec S16 32) a x).toNat < S128x8.size a := fun v106 v148 k1_hw31 => k1_hw31.2

def k1_chk32 (v106 : IVec S16 32) (v150 : IVec S16 32) : Prop :=
  (∀ a x, ((![v106, v150] : Fin 2 → IVec S16 32) a x).toNat < S128x8.size a) ∧
  (∀ a x, ((![v106, v150] : Fin 2 → IVec S16 32) a x).toNat < S128x8.size a)
theorem k1_idx63_inb : ∀ (v106 : IVec S16 32) (v150 : IVec S16 32) (k1_hw32 : k1_chk32 v106 v150), ∀ a x, ((![v106, v150] : Fin 2 → IVec S16 32) a x).toNat < S128x8.size a := fun v106 v150 k1_hw32 => k1_hw32.1
theorem k1_idx64_inb : ∀ (v106 : IVec S16 32) (v150 : IVec S16 32) (k1_hw32 : k1_chk32 v106 v150), ∀ a x, ((![v106, v150] : Fin 2 → IVec S16 32) a x).toNat < S128x8.size a := fun v106 v150 k1_hw32 => k1_hw32.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S4x4096x8 : Shape := ⟨3, ![4, 4096, 8]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x4096x64, .f32⟩
  | .hbm, ⟨3, _⟩ => ⟨S4x4096x8, .f32⟩
  | .hbm, ⟨4, _⟩ => ⟨S4x4096x8, .i32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x8, .f32⟩
  | .hbm, ⟨12, _⟩ => ⟨S4x4096x8, .f32⟩
  | .hbm, ⟨13, _⟩ => ⟨S4x4096x8, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x8, .f32⟩
  | .hbm, ⟨18, _⟩ => ⟨S4x4096x8, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Insert.lean ====
/-
  What one tile of the SparseCore computes for a group of sixteen tokens, as a program over plain names: for every expert
  in turn one insertion step into the eight running values and indices (`ins`), then the eight columns of the two result
  buffers (`storeCol`). The kernel writes this four times (one per slab of 128 tokens); the equalities at the end say that
  each is this one program.
-/
module

public import proofs.«01_k».proof.Defs
public import proofs.«01_k».proof.Proof.Gen.KernelIdeal
public import proofs.«01_k».proof.Proof.Gen.KernelIdeal.Skeleton

@[expose] public section

noncomputable section

namespace Cert.Proof.Topk

open Cert.KernelIdeal Cert.KernelIdeal.Gen
open Idealize.ShloMosaic Idealize.SL.Sem

variable {F : FTy → Type} [FloatOps F]

/-- The eight running values and the eight running indices, a vector of sixteen tokens each. -/
abbrev Acc (F : FTy → Type) : Type :=
  FVec F S16 .f32 × FVec F S16 .f32 × FVec F S16 .f32 × FVec F S16 .f32 × FVec F S16 .f32 × FVec F S16 .f32 × FVec F S16 .f32 × FVec F S16 .f32 ×
  IVec S16 32 × IVec S16 32 × IVec S16 32 × IVec S16 32 × IVec S16 32 × IVec S16 32 × IVec S16 32 × IVec S16 32

/-- One value put between its neighbour and itself: kept below, taken from above, or replaced. -/
def mid {e : EltTy} (x : FVec F S16 .f32) (y : Vec F S16 e) (v v' : FVec F S16 .f32) (z z' : Vec F S16 e) : Vec F S16 e :=
  select (cmpf .ogt x v) z (select (cmpf .ogt x v') y z')

/-- The vector `x` of expert `e`'s logits inserted into the running eight. -/
def ins (x : FVec F S16 .f32) (e : IVec S16 32) : Acc F → Acc F
  | (a0, a1, a2, a3, a4, a5, a6, a7, b0, b1, b2, b3, b4, b5, b6, b7) =>
    (select (cmpf .ogt x a0) x a0, mid (e := .f32) x x a0 a1 a0 a1, mid (e := .f32) x x a1 a2 a1 a2, mid (e := .f32) x x a2 a3 a2 a3,
     mid (e := .f32) x x a3 a4 a3 a4, mid (e := .f32) x x a4 a5 a4 a5, mid (e := .f32) x x a5 a6 a5 a6, mid (e := .f32) x x a6 a7 a6 a7,
     select (cmpf .ogt x a0) e b0, mid (e := .i32) x e a0 a1 b0 b1, mid (e := .i32) x e a1 a2 b1 b2, mid (e := .i32) x e a2 a3 b2 b3,
     mid (e := .i32) x e a3 a4 b3 b4, mid (e := .i32) x e a4 a5 b4 b5, mid (e := .i32) x e a5 a6 b5 b6, mid (e := .i32) x e a6 a7 b6 b7)

/-- Before the first expert: eight values −∞, eight indices 0. -/
def acc0 : Acc F :=
  let m : FVec F S16 .f32 := broadcast S16 (Scalar.ofBits .f32 0xFF800000#32)
  let z : IVec S16 32 := broadcast S16 0#32
  (m, m, m, m, m, m, m, m, z, z, z, z, z, z, z, z)

/-- The word naming expert `4 t + r`, as the loop computes it. -/
def expertWord (t : Fin k1_t2_loop.trips) (r : Fin 4) : BitVec 32 :=
  Scalar.addi (Scalar.muli (Scf.iv 0#32 1#32 t) 4#32) (BitVec.ofNat 32 r.val)

/-- Step `r` of trip `t`, from the row the load read. -/
def step (t : Fin k1_t2_loop.trips) (r : Fin 4) (x : Vec F S1x16 .f32) : Acc F → Acc F :=
  ins (shapeCast S16 x shapeCasts_S1x16_S16) (broadcast S16 (expertWord t r))

/-- A family of row offsets inside the block of logits, one per trip and step. -/
structure Rows where
  off : Fin k1_t2_loop.trips → Fin 4 → Fin 2 → Nat
  inb : ∀ t r a, off t r a + S1x16.size a ≤ S64x512.size a

abbrev PV (i : grid1.Coords) : Proc τ := .scVector ((i 0).castLE hcore1) ((i 1).castLE hsub1)

/-- Four experts: load the row, insert it. -/
def innerBody (i : grid1.Coords) (m : Memref sig .scVector .vmem S64x512 .f32) (R : Rows) (t : Fin k1_t2_loop.trips) (st : Acc F) :
    Prog (TpuEff nD τ sig (Elt F) Λ₀ (PV i)) (Acc F) := do
  let x0 : Vec F S1x16 .f32 ← Prog.lift (.load m (Rect.unit (s := S64x512) (R.off t 0) S1x16.size (R.inb t 0)).toLoadRect (View.loadsAt_vmem h_S1x16))
  let x1 : Vec F S1x16 .f32 ← Prog.lift (.load m (Rect.unit (s := S64x512) (R.off t 1) S1x16.size (R.inb t 1)).toLoadRect (View.loadsAt_vmem h_S1x16))
  let x2 : Vec F S1x16 .f32 ← Prog.lift (.load m (Rect.unit (s := S64x512) (R.off t 2) S1x16.size (R.inb t 2)).toLoadRect (View.loadsAt_vmem h_S1x16))
  let x3 : Vec F S1x16 .f32 ← Prog.lift (.load m (Rect.unit (s := S64x512) (R.off t 3) S1x16.size (R.inb t 3)).toLoadRect (View.loadsAt_vmem h_S1x16))
  pure (step t 3 x3 (step t 2 x2 (step t 1 x1 (step t 0 x0 st))))

/-- Lane `l`'s row of the slab, group `t1`: `16 t1 + l`. -/
def rowWord (v30 : IVec S16 32) (t1 : Fin k1_t1_loop.trips) : IVec S16 32 :=
  addi (broadcast S16 (Scalar.muli (Scf.iv 0#32 1#32 t1) 16#32)) v30

/-- Column `w` of the slab's two buffers written for the group's sixteen rows, the indices checked first. -/
def storeCol (i : grid1.Coords) (mI : Memref sig .scVector .vmem S128x8 .i32) (mW : Memref sig .scVector .vmem S128x8 .f32)
    (rows : IVec S16 32) (w : BitVec 32) (vI : IVec S16 32) (vW : FVec F S16 .f32) :
    Prog (TpuEff nD τ sig (Elt F) Λ₀ (PV i)) PUnit := do
  have hw : k1_chk1 rows (broadcast S16 w) := (← Prog.lift (TpuEff.assume (k1_chk1 rows (broadcast S16 w)) (k1_chk1.dec rows (broadcast S16 w)))).down
  SparseCore.vectorStoreIdx mI ![rows, broadcast S16 w] vI (fun _ => 1#1) false (k1_idx1_inb rows _ hw) (View.stores_vmem_bits_univ h_S128x8 rfl)
  SparseCore.vectorStoreIdx mW ![rows, broadcast S16 w] vW (fun _ => 1#1) false (k1_idx2_inb rows _ hw) (View.stores_vmem_bits_univ h_S128x8 rfl)

/-- `exp` of a running value less the largest. -/
def ex (a0 a : FVec F S16 .f32) : FVec F S16 .f32 := exp (subf a a0)

/-- One over the sum of the eight exponentials. -/
def scale (a0 a1 a2 a3 a4 a5 a6 a7 : FVec F S16 .f32) : FVec F S16 .f32 :=
  divf (broadcast S16 (Scalar.ofBits .f32 0x3F800000#32))
    (addf (addf (addf (addf (addf (addf (addf (ex a0 a0) (ex a0 a1)) (ex a0 a2)) (ex a0 a3)) (ex a0 a4)) (ex a0 a5)) (ex a0 a6)) (ex a0 a7))

/-- The sixteen columns written for one group from the eight values and indices found. -/
def storeAll (i : grid1.Coords) (mI : Memref sig .scVector .vmem S128x8 .i32) (mW : Memref sig .scVector .vmem S128x8 .f32) (rows : IVec S16 32) :
    Acc F → Prog (TpuEff nD τ sig (Elt F) Λ₀ (PV i)) PUnit
  | (a0, a1, a2, a3, a4, a5, a6, a7, b0, b1, b2, b3, b4, b5, b6, b7) => do
    storeCol i mI mW rows 0#32 b0 (mulf (ex a0 a0) (scale a0 a1 a2 a3 a4 a5 a6 a7))
    storeCol i mI mW rows 1#32 b1 (mulf (ex a0 a1) (scale a0 a1 a2 a3 a4 a5 a6 a7))
    storeCol i mI mW rows 2#32 b2 (mulf (ex a0 a2) (scale a0 a1 a2 a3 a4 a5 a6 a7))
    storeCol i mI mW rows 3#32 b3 (mulf (ex a0 a3) (scale a0 a1 a2 a3 a4 a5 a6 a7))
    storeCol i mI mW rows 4#32 b4 (mulf (ex a0 a4) (scale a0 a1 a2 a3 a4 a5 a6 a7))
    storeCol i mI mW rows 5#32 b5 (mulf (ex a0 a5) (scale a0 a1 a2 a3 a4 a5 a6 a7))
    storeCol i mI mW rows 6#32 b6 (mulf (ex a0 a6) (scale a0 a1 a2 a3 a4 a5 a6 a7))
    storeCol i mI mW rows 7#32 b7 (mulf (ex a0 a7) (scale a0 a1 a2 a3 a4 a5 a6 a7))
    pure ⟨⟩

/-- A group of sixteen tokens: the 64 experts, then the columns. -/
def groupBody (i : grid1.Coords) (m : Memref sig .scVector .vmem S64x512 .f32) (mI : Memref sig .scVector .vmem S128x8 .i32)
    (mW : Memref sig .scVector .vmem S128x8 .f32) (v30 : IVec S16 32) (R : Fin k1_t1_loop.trips → Rows) (t1 : Fin k1_t1_loop.trips) (_ : Unit) :
    Prog (TpuEff nD τ sig (Elt F) Λ₀ (PV i)) Unit := do
  let st ← Scf.Loop.for k1_t2_loop k1_t2_ok (acc0 (F := F)) (innerBody i m (R t1))
  storeAll i mI mW (rowWord v30 t1) st

def rows0 (t1 : Fin k1_t1_loop.trips) : Rows := ⟨fun t r => k1_off2 t1 t (BitVec.ofNat 32 r.val), fun t r => k1_off2_inb t1 t r⟩
def rows1 (t1 : Fin k1_t1_loop.trips) : Rows := ⟨fun t r => k1_off4 t1 t (BitVec.ofNat 32 r.val), fun t r => k1_off4_inb t1 t r⟩
def rows2 (t1 : Fin k1_t1_loop.trips) : Rows := ⟨fun t r => k1_off5 t1 t (BitVec.ofNat 32 r.val), fun t r => k1_off5_inb t1 t r⟩
def rows3 (t1 : Fin k1_t1_loop.trips) : Rows := ⟨fun t r => k1_off6 t1 t (BitVec.ofNat 32 r.val), fun t r => k1_off6_inb t1 t r⟩

section
set_option maxRecDepth 65536

variable (i : grid1.Coords) (arg2 : Memref sig .scVector .hbm S64x16384 .f32) (harg2 : arg2.IsWhole)
  (arg3 : Memref sig .scVector .hbm S4x4096x8 .i32) (harg3 : arg3.IsWhole) (arg4 : Memref sig .scVector .hbm S4x4096x8 .f32) (harg4 : arg4.IsWhole)
  (arg5 : Memref sig .scVector .vmem S64x512 .f32) (harg5 : arg5.IsWhole) (arg6 : Memref sig .scVector .vmem S128x8 .i32) (harg6 : arg6.IsWhole)
  (arg7 : Memref sig .scVector .vmem S128x8 .f32) (harg7 : arg7.IsWhole) (arg8 : Memref sig .scVector .vmem S128x8 .i32) (harg8 : arg8.IsWhole)
  (arg9 : Memref sig .scVector .vmem S128x8 .f32) (harg9 : arg9.IsWhole) (arg10 arg11 v103_r0 : DmaSems sig S_) (v29 : BitVec 32) (v30 : IVec S16 32)

theorem t2_body_eq (c c' : BitVec 32) (t1 : Fin k1_t1_loop.trips) (v103 : BitVec 32) :
    k1_t2_body (F := F) i arg2 harg2 arg3 harg3 arg4 harg4 arg5 harg5 arg6 harg6 arg7 harg7 arg8 harg8 arg9 harg9 arg10 arg11 v103_r0 v30 c c' t1 v103
      = innerBody i arg5 (rows0 t1) := by
  funext t ⟨a0, a1, a2, a3, a4, a5, a6, a7, b0, b1, b2, b3, b4, b5, b6, b7⟩
  rfl

theorem t1_body_eq :
    k1_t1_body (F := F) i arg2 harg2 arg3 harg3 arg4 harg4 arg5 harg5 arg6 harg6 arg7 harg7 arg8 harg8 arg9 harg9 arg10 arg11 v103_r0 v29 v30 0#32
      = groupBody i arg5 arg6 arg7 v30 rows0 := by
  funext t1 u
  unfold k1_t1_body groupBody
  rw [k1_part4_eq_skeleton, k1_part4_skel]
  simp only [t2_body_eq]
  rw [bind_assoc]
  exact congrArg (fun g => Scf.Loop.for k1_t2_loop k1_t2_ok (acc0 (F := F)) (innerBody i arg5 _) >>= g)
    (funext fun ⟨a0, a1, a2, a3, a4, a5, a6, a7, b0, b1, b2, b3, b4, b5, b6, b7⟩ => rfl)

theorem t4_body_eq (c c' : BitVec 32) (t1 : Fin k1_t1_loop.trips) (v103 : BitVec 32) :
    k1_t4_body (F := F) i arg2 harg2 arg3 harg3 arg4 harg4 arg5 harg5 arg6 harg6 arg7 harg7 arg8 harg8 arg9 harg9 arg10 arg11 v103_r0 v30 c c' t1 v103
      = innerBody i arg5 (rows1 t1) := by
  funext t ⟨a0, a1, a2, a3, a4, a5, a6, a7, b0, b1, b2, b3, b4, b5, b6, b7⟩
  rfl

theorem t3_body_eq (c : BitVec 32) :
    k1_t3_body (F := F) i arg2 harg2 arg3 harg3 arg4 harg4 arg5 harg5 arg6 harg6 arg7 harg7 arg8 harg8 arg9 harg9 arg10 arg11 v103_r0 v29 v30 c
      = groupBody i arg5 arg8 arg9 v30 rows1 := by
  funext t1 u
  unfold k1_t3_body groupBody
  rw [k1_part8_eq_skeleton, k1_part8_skel]
  simp only [t4_body_eq]
  rw [bind_assoc]
  exact congrArg (fun g => Scf.Loop.for k1_t2_loop k1_t2_ok (acc0 (F := F)) (innerBody i arg5 _) >>= g)
    (funext fun ⟨a0, a1, a2, a3, a4, a5, a6, a7, b0, b1, b2, b3, b4, b5, b6, b7⟩ => rfl)

theorem t6_body_eq (c c' : BitVec 32) (t1 : Fin k1_t1_loop.trips) (v103 : BitVec 32) :
    k1_t6_body (F := F) i arg2 harg2 arg3 harg3 arg4 harg4 arg5 harg5 arg6 harg6 arg7 harg7 arg8 harg8 arg9 harg9 arg10 arg11 v103_r0 v30 c c' t1 v103
      = innerBody i arg5 (rows2 t1) := by
  funext t ⟨a0, a1, a2, a3, a4, a5, a6, a7, b0, b1, b2, b3, b4, b5, b6, b7⟩
  rfl

theorem t5_body_eq :
    k1_t5_body (F := F) i arg2 harg2 arg3 harg3 arg4 harg4 arg5 harg5 arg6 harg6 arg7 harg7 arg8 harg8 arg9 harg9 arg10 arg11 v103_r0 v29 v30 0#32
      = groupBody i arg5 arg6 arg7 v30 rows2 := by
  funext t1 u
  unfold k1_t5_body groupBody
  rw [k1_part12_eq_skeleton, k1_part12_skel]
  simp only [t6_body_eq]
  rw [bind_assoc]
  exact congrArg (fun g => Scf.Loop.for k1_t2_loop k1_t2_ok (acc0 (F := F)) (innerBody i arg5 _) >>= g)
    (funext fun ⟨a0, a1, a2, a3, a4, a5, a6, a7, b0, b1, b2, b3, b4, b5, b6, b7⟩ => rfl)

theorem t8_body_eq (c c' : BitVec 32) (t1 : Fin k1_t1_loop.trips) (v103 : BitVec 32) :
    k1_t8_body (F := F) i arg2 harg2 arg3 harg3 arg4 harg4 arg5 harg5 arg6 harg6 arg7 harg7 arg8 harg8 arg9 harg9 arg10 arg11 v103_r0 v30 c c' t1 v103
      = innerBody i arg5 (rows3 t1) := by
  funext t ⟨a0, a1, a2, a3, a4, a5, a6, a7, b0, b1, b2, b3, b4, b5, b6, b7⟩
  rfl

theorem t7_body_eq (c : BitVec 32) :
    k1_t7_body (F := F) i arg2 harg2 arg3 harg3 arg4 harg4 arg5 harg5 arg6 harg6 arg7 harg7 arg8 harg8 arg9 harg9 arg10 arg11 v103_r0 v29 v30 c
      = groupBody i arg5 arg8 arg9 v30 rows3 := by
  funext t1 u
  unfold k1_t7_body groupBody
  rw [k1_part16_eq_skeleton, k1_part16_skel]
  simp only [t8_body_eq]
  rw [bind_assoc]
  exact congrArg (fun g => Scf.Loop.for k1_t2_loop k1_t2_ok (acc0 (F := F)) (innerBody i arg5 _) >>= g)
    (funext fun ⟨a0, a1, a2, a3, a4, a5, a6, a7, b0, b1, b2, b3, b4, b5, b6, b7⟩ => rfl)

end

end Cert.Proof.Topk
-- ==== Proof.Lane.lean ====
/-
  The insertion read one token at a time: lane `l` of the sixteen-wide step is the scalar insertion `ins1` of the token's
  logit, so that after all 64 experts a lane holds `topN` of its column of the block.
-/
module

public import proofs.«01_k».proof.Proof.Insert
public import Idealize.ShloMosaic.Lib.Pipeline.Value

@[expose] public section

noncomputable section

namespace Cert.Proof.Topk

open Cert.KernelIdeal Cert.KernelIdeal.Gen
open Idealize.ShloMosaic Idealize.SL.Sem

variable {F : FTy → Type} [FloatOps F]

/-- One token's running eight: values and indices. -/
abbrev Eight (F : FTy → Type) : Type := (Fin 8 → F .f32) × (Fin 8 → BitVec 32)

/-- `a` inserted above the first smaller value; `z` what is moved along with it. -/
def put {α : Type} (x : F .f32) (y : α) (v : Fin 8 → F .f32) (z : Fin 8 → α) : Fin 8 → α :=
  Fin.cases (Scalar.select (FloatOps.cmpf .ogt x (v 0)) y (z 0)) fun k : Fin 7 =>
    Scalar.select (FloatOps.cmpf .ogt x (v k.castSucc)) (z k.castSucc) (Scalar.select (FloatOps.cmpf .ogt x (v k.succ)) y (z k.succ))

def ins1 (x : F .f32) (e : BitVec 32) (T : Eight F) : Eight F := (put x x T.1 T.1, put x e T.1 T.2)

/-- The eight of the first `n` entries of a column. -/
def topN (h : Nat → F .f32) : Nat → Eight F
  | 0 => (fun _ => Scalar.ofBits .f32 0xFF800000#32, fun _ => 0#32)
  | n + 1 => ins1 (h n) (BitVec.ofNat 32 n) (topN h n)

/-- What lane `l` of the running vectors holds. -/
def lanes (st : Acc F) (l : S16.Idx) : Eight F :=
  match st with
  | (a0, a1, a2, a3, a4, a5, a6, a7, b0, b1, b2, b3, b4, b5, b6, b7) =>
    (![a0 l, a1 l, a2 l, a3 l, a4 l, a5 l, a6 l, a7 l], ![b0 l, b1 l, b2 l, b3 l, b4 l, b5 l, b6 l, b7 l])

theorem lanes_ins (x : FVec F S16 .f32) (e : IVec S16 32) (st : Acc F) (l : S16.Idx) :
    lanes (ins x e st) l = ins1 (x l) (e l) (lanes st l) := by
  obtain ⟨a0, a1, a2, a3, a4, a5, a6, a7, b0, b1, b2, b3, b4, b5, b6, b7⟩ := st
  refine Prod.ext (funext fun j => ?_) (funext fun j => ?_) <;> fin_cases j <;> rfl

theorem lanes_acc0 (h : Nat → F .f32) (l : S16.Idx) : lanes (acc0 (F := F)) l = topN h 0 := by
  refine Prod.ext (funext fun j => ?_) (funext fun j => ?_) <;> fin_cases j <;> rfl

/-- The index of a block of logits at expert `e`, column `c`. -/
def ix (e c : Nat) : S64x512.Idx := fun a => ⟨(![e, c] : Fin 2 → Nat) a % S64x512.size a, Nat.mod_lt _ (by fin_cases a <;> decide)⟩

/-- Column `c` of a block, by expert. -/
def col (g : S64x512.Idx → F .f32) (c : Nat) : Nat → F .f32 := fun e => g (ix e c)

theorem trips1 : k1_t1_loop.trips = 8 := by decide +kernel
theorem trips2 : k1_t2_loop.trips = 16 := by decide +kernel

theorem expertWord_eq (t : Fin k1_t2_loop.trips) (r : Fin 4) : expertWord t r = BitVec.ofNat 32 (4 * t.val + r.val) := by
  revert t r; decide +kernel

/-- The rows of a family stand at experts `4 t + r` and columns from `c`. -/
def Rows.At (R : Rows) (c : Nat) : Prop := ∀ t r, R.off t r = ![4 * t.val + r.val, c]

theorem row_emb (R : Rows) (c : Nat) (hR : R.At c) (hc : c + 16 ≤ 512) (t : Fin k1_t2_loop.trips) (r : Fin 4)
    (g : S64x512.Idx → F .f32) (l : S16.Idx) :
    shapeCast S16 (fun x => g ((Rect.unit (s := S64x512) (R.off t r) S1x16.size (R.inb t r)).emb x)) shapeCasts_S1x16_S16 l
      = col g (c + (l 0).val) (4 * t.val + r.val) := by
  refine (shapeCast_dropUnit_apply ![16] _ _ l).trans ?_
  unfold col
  congr 1
  funext a
  apply Fin.ext
  have ht : t.val < 16 := trips2 ▸ t.isLt
  have hl : (l 0).val < 16 := (l 0).isLt
  have hr := hR t r
  fin_cases a
  · show R.off t r 0 + 0 * 1 = (4 * t.val + r.val) % 64
    rw [hr]; show 4 * t.val + r.val + 0 * 1 = _; omega
  · show R.off t r 1 + 1 * (l 0).val = (c + (l 0).val) % 512
    rw [hr]; show c + 1 * (l 0).val = _; omega

/-- Four steps of a trip, at one lane. -/
theorem lanes_trip (R : Rows) (c : Nat) (hR : R.At c) (hc : c + 16 ≤ 512) (t : Fin k1_t2_loop.trips) (g : S64x512.Idx → F .f32) (st : Acc F)
    (h : ∀ l, lanes st l = topN (col g (c + (l 0).val)) (4 * t.val)) (l : S16.Idx) :
    lanes (step t 3 (fun x => g ((Rect.unit (s := S64x512) (R.off t 3) S1x16.size (R.inb t 3)).emb x))
      (step t 2 (fun x => g ((Rect.unit (s := S64x512) (R.off t 2) S1x16.size (R.inb t 2)).emb x))
        (step t 1 (fun x => g ((Rect.unit (s := S64x512) (R.off t 1) S1x16.size (R.inb t 1)).emb x))
          (step t 0 (fun x => g ((Rect.unit (s := S64x512) (R.off t 0) S1x16.size (R.inb t 0)).emb x)) st)))) l
      = topN (col g (c + (l 0).val)) (4 * (t.val + 1)) := by
  simp only [step, lanes_ins, h l, broadcast, expertWord_eq]
  have e := fun r => row_emb R c hR hc t r g l
  exact congr (congrArg (fun x T => ins1 x (BitVec.ofNat 32 (4 * t.val + 3)) T) (e 3))
    (congr (congrArg (fun x T => ins1 x (BitVec.ofNat 32 (4 * t.val + 2)) T) (e 2))
      (congr (congrArg (fun x T => ins1 x (BitVec.ofNat 32 (4 * t.val + 1)) T) (e 1))
        (congrArg (fun x => ins1 x (BitVec.ofNat 32 (4 * t.val + 0)) (topN (col g (c + (l 0).val)) (4 * t.val))) (e 0))))

/-- The value and index columns the eight give: the index, and the exponential over the sum. -/
def weight (T : Eight F) (j : Fin 8) : F .f32 :=
  let e : Fin 8 → F .f32 := fun j => FloatOps.exp (FloatOps.subf (T.1 j) (T.1 0))
  FloatOps.mulf (e j) (FloatOps.divf (Scalar.ofBits .f32 0x3F800000#32)
    (FloatOps.addf (FloatOps.addf (FloatOps.addf (FloatOps.addf (FloatOps.addf (FloatOps.addf (FloatOps.addf (e 0) (e 1)) (e 2)) (e 3)) (e 4)) (e 5)) (e 6)) (e 7)))

end Cert.Proof.Topk
-- ==== Proof.Scatter.lean ====
/-
  The eight pairs of indexed stores of a group, as one rule: each writes one column of the slab's index buffer and of its
  weight buffer at the group's sixteen rows.
-/
module

public import proofs.«01_k».proof.Proof.Lane
public import Idealize.ShloMosaic.Lib.SparseCore.Ops
public import Idealize.ShloMosaic.Lib.SparseCore.Quiescent
public import Idealize.ShloMosaic.Lib.Tactic

@[expose] public section

noncomputable section

namespace Cert.Proof.Topk

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The stored buffer, pointwise -/

theorem foldl_over {κ ι α : Type} (P : κ → ι → Prop) [∀ k j, Decidable (P k j)] (u : κ → α) (j : ι) (y : α) :
    ∀ (l : List κ) (f : ι → α), (∀ k ∈ l, P k j → u k = y) → (f j = y ∨ ∃ k ∈ l, P k j) →
      l.foldl (fun g k => fun j => if P k j then u k else g j) f j = y
  | [], f, _, h => by simpa using h
  | k :: l, f, hu, h => by
    rw [List.foldl_cons]
    refine foldl_over P u j y l _ (fun k' hk' => hu k' (List.mem_cons_of_mem _ hk')) ?_
    by_cases hk : P k j
    · exact .inl (by rw [if_pos hk]; exact hu k List.mem_cons_self hk)
    · rcases h with h | ⟨k', hk', hP⟩
      · exact .inl (by rw [if_neg hk]; exact h)
      · rcases List.mem_cons.mp hk' with rfl | hk'
        · exact absurd hP hk
        · exact .inr ⟨k', hk', hP⟩

/-- The lane of a row within its group. -/
def laneOf (n : Nat) : S16.Idx := fun a => ⟨n % 16, by fin_cases a; exact Nat.mod_lt _ (by decide)⟩

/-- A slab's buffer with the first `n` columns of group `t` filled in. -/
def mix {α : Type} (f : S128x8.Idx → α) (t n : Nat) (u : S16.Idx → Fin 8 → α) : S128x8.Idx → α :=
  fun j => if (j 0).val / 16 = t ∧ (j 1).val < n then u (laneOf (j 0).val) (j 1) else f j

theorem mix_zero {α : Type} (f : S128x8.Idx → α) (t : Nat) (u : S16.Idx → Fin 8 → α) : mix f t 0 u = f :=
  funext fun j => if_neg fun h => absurd h.2 (Nat.not_lt_zero _)

/-- Lane `l`'s row word is `16 t + l`. -/
theorem rowWord_toNat (v30 : IVec S16 32) (hv : ∀ x, (v30 x).toNat = (x 0).val) (t : Fin k1_t1_loop.trips) (x : S16.Idx) :
    (rowWord v30 t x).toNat = 16 * t.val + (x 0).val := by
  have ht : t.val < 8 := trips1 ▸ t.isLt
  have hx : (x 0).val < 16 := (x 0).isLt
  have e : Scalar.muli (Scf.iv 0#32 1#32 t) 16#32 = BitVec.ofNat 32 (16 * t.val) := by
    clear ht hx x hv; revert t; decide +kernel
  show (Scalar.muli (Scf.iv 0#32 1#32 t) 16#32 + v30 x).toNat = _
  rw [e, BitVec.toNat_add, hv, BitVec.toNat_ofNat]
  omega

theorem chk (v30 : IVec S16 32) (hv : ∀ x, (v30 x).toNat = (x 0).val) (t : Fin k1_t1_loop.trips) (k : Fin 8) :
    k1_chk1 (rowWord v30 t) (broadcast S16 (BitVec.ofNat 32 k.val)) := by
  have h : ∀ a x, ((![rowWord v30 t, broadcast S16 (BitVec.ofNat 32 k.val)] : Fin 2 → IVec S16 32) a x).toNat < S128x8.size a := by
    intro a x
    have ht : t.val < 8 := trips1 ▸ t.isLt
    have hx : (x 0).val < 16 := (x 0).isLt
    fin_cases a
    · show (rowWord v30 t x).toNat < 128
      rw [rowWord_toNat v30 hv]; omega
    · show (BitVec.ofNat 32 k.val).toNat < 8
      rw [BitVec.toNat_ofNat]; have := k.isLt; omega
  exact ⟨h, h⟩

theorem storeIdx_mix {e : EltTy} (f : Vec F S128x8 e) (v30 : IVec S16 32) (hv : ∀ x, (v30 x).toNat = (x 0).val)
    (t : Fin k1_t1_loop.trips) (k : Fin 8) (u : S16.Idx → Fin 8 → Elt F e) (h) :
    storeIdx (d := ![16]) (mix f t.val k.val u) ![rowWord v30 t, broadcast S16 (BitVec.ofNat 32 k.val)] (fun l => u l k) (fun _ => 1#1) false h
      = mix f t.val (k.val + 1) u := by
  funext j
  have hj0 : (j 0).val < 128 := (j 0).isLt
  have hj1 : (j 1).val < 8 := (j 1).isLt
  have ht : t.val < 8 := trips1 ▸ t.isLt
  have hP : ∀ x : S16.Idx, (∀ a, (j a).val = (idxAt ![rowWord v30 t, broadcast S16 (BitVec.ofNat 32 k.val)] h x a).val)
      ↔ (j 0).val = 16 * t.val + (x 0).val ∧ (j 1).val = k.val := by
    intro x
    have hk : (BitVec.ofNat 32 k.val).toNat = k.val := by rw [BitVec.toNat_ofNat]; have := k.isLt; omega
    rw [show (∀ a, (j a).val = (idxAt ![rowWord v30 t, broadcast S16 (BitVec.ofNat 32 k.val)] h x a).val)
      ↔ (∀ a : Fin 2, (j a).val = ((![rowWord v30 t, broadcast S16 (BitVec.ofNat 32 k.val)] : Fin 2 → IVec S16 32) a x).toNat) from Iff.rfl,
      Fin.forall_fin_two]
    show (j 0).val = (rowWord v30 t x).toNat ∧ (j 1).val = (BitVec.ofNat 32 k.val).toNat ↔ _
    rw [rowWord_toNat v30 hv, hk]
  unfold storeIdx
  simp only [↓reduceIte, Bool.false_eq_true]
  refine foldl_over (κ := Fin 16) (fun x j => ∀ a, (j a).val = (idxAt ![rowWord v30 t, broadcast S16 (BitVec.ofNat 32 k.val)] h (Shape.ofLane (d := ![16]) x) a).val)
    (fun x => u (Shape.ofLane (d := ![16]) x) k) j _ (List.finRange 16) (mix f t.val k.val u) ?_ ?_
  · intro x _ hx
    have h1 := (hP _).mp hx
    have hx0 : x.val < 16 := x.isLt
    have h0 : (j 0).val = 16 * t.val + x.val := h1.1
    unfold mix
    rw [if_pos ⟨by omega, by omega⟩]
    have e1 : laneOf (j 0).val = Shape.ofLane (d := ![16]) x := by
      funext a; apply Fin.ext; fin_cases a; show (j 0).val % 16 = x.val; omega
    have e2 : (j 1 : Fin 8) = k := Fin.ext h1.2
    rw [e1]; exact congrArg _ e2.symm
  · by_cases hc : (j 0).val / 16 = t.val ∧ (j 1).val = k.val
    · refine .inr ⟨⟨(j 0).val % 16, by omega⟩, List.mem_finRange _, (hP _).mpr ⟨?_, hc.2⟩⟩
      show (j 0).val = 16 * t.val + (j 0).val % 16
      omega
    · refine .inl ?_
      unfold mix
      by_cases h1 : (j 0).val / 16 = t.val ∧ (j 1).val < k.val
      · rw [if_pos h1, if_pos ⟨h1.1, by omega⟩]
      · rw [if_neg h1, if_neg (by omega)]

/-! ## The rule -/

variable {Ix : Type} [DecidableEq Ix] {Name : Type} [DecidableEq Name] {U : Type} [URA U] {Lvl : Type} [Preorder Lvl]

local notation "𝕄" => MT nD τ sig Ix (Elt F) Name U Lvl

/-- The memref's elements held outright, reading `v`. -/
def Cell {sp : Space} {s : Shape} {e : EltTy} (c : Thread nD τ) (m : Memref sig c.2.kind sp s e) (v : Vec F s e) : sProp 𝕄 :=
  iprop(∃ f, ⌜(m.access (.whole s)).read (Elt F) f = v⌝ ∗ (m.access (.whole s)).loc c ↦[(m.access (.whole s)).set]{fullShare} f)

variable {defs : Defs nD τ sig (Elt F) Λ₀} (𝒱 : Variants) (d : Dev nD) (i : grid1.Coords) (bd : Option 𝒱.V) (E : Set Name)

theorem wp_storeIdx_cell {e : EltTy} {dd : Fin 1 → Nat} {c : Thread nD τ} {base : Memref sig c.2.kind .vmem S128x8 e} {idxs : Fin 2 → IVec ⟨1, dd⟩ 32} {v : Vec F ⟨1, dd⟩ e}
    {mask : IVec ⟨1, dd⟩ 1} {add : Bool} {h : ∀ a x, (idxs a x).toNat < S128x8.size a} {hs : (base.access (.whole S128x8)).Stores Finset.univ}
    {α : Type} {Q : α → sProp 𝕄} {k : PUnit → Prog (TpuEff nD τ sig (Elt F) Λ₀ c.2) α} (f f' : Vec F S128x8 e)
    (hf : storeIdx f idxs v mask add h = f') :
    Cell c base f
      ⊢ iprop((Cell c base f' -∗ wp frame (wpE defs 𝒱 c bd) E (k ⟨⟩) Q)
        -∗ wp frame (wpE defs 𝒱 c bd) E (SparseCore.vectorStoreIdx base idxs v mask add h hs >>= k) Q) := by
  unfold Cell
  iintro ⟨%b, %hb, H⟩ Hk
  iapply (SparseCore.wp_vectorStoreIdx 𝒱 c bd E) $$ H
  iintro H
  iapply Hk
  iexists ((base.access (.whole S128x8)).write (Elt F) b (storeIdx ((base.access (.whole S128x8)).read (Elt F) b) idxs v mask add h) Finset.univ)
  isplitr
  · ipureintro; exact (View.read_write_univ _ _).trans ((congrArg (fun z => storeIdx z idxs v mask add h) hb).trans hf)
  · iexact H

theorem wp_storeCol {mI : Memref sig .scVector .vmem S128x8 .i32} {mW : Memref sig .scVector .vmem S128x8 .f32}
    (v30 : IVec S16 32) (hv : ∀ x, (v30 x).toNat = (x 0).val) (t : Fin k1_t1_loop.trips) (k : Fin 8) (n n' : Nat) (hn : k.val = n) (hn' : n + 1 = n')
    (w : BitVec 32) (hw : w = BitVec.ofNat 32 k.val)
    (f : Vec F S128x8 .i32) (g : Vec F S128x8 .f32) (uI : S16.Idx → Fin 8 → BitVec 32) (uW : S16.Idx → Fin 8 → F .f32)
    (vI : IVec S16 32) (vW : FVec F S16 .f32) (hI : vI = fun l => uI l k) (hW : vW = fun l => uW l k)
    {α : Type} {Q : α → sProp 𝕄} {kk : PUnit → Prog (TpuEff nD τ sig (Elt F) Λ₀ (PV i)) α} :
    iprop(Cell (d, PV i) mI (mix f t.val n uI) ∗ Cell (d, PV i) mW (mix g t.val n uW))
      ⊢ iprop((Cell (d, PV i) mI (mix f t.val n' uI) ∗ Cell (d, PV i) mW (mix g t.val n' uW)
            -∗ wp frame (wpE defs 𝒱 (d, PV i) bd) E (kk ⟨⟩) Q)
        -∗ wp frame (wpE defs 𝒱 (d, PV i) bd) E
            (storeCol i mI mW (rowWord v30 t) w vI vW >>= kk) Q) := by
  subst hn hn' hw hI hW
  iintro ⟨HI, HW⟩ Hk
  unfold storeCol
  simp only [bind_assoc]
  irw [show ∀ {α : Type} (P : Prop) (dP : Decidable P) (g : PLift P → Prog (TpuEff nD τ sig (Elt F) Λ₀ (PV i)) α),
    (Prog.lift (TpuEff.assume P dP) >>= g) = .op (.assume P dP) g from fun _ _ _ => rfl]
  irw [wp_assume_of 𝒱 (d, PV i) bd E (chk v30 hv t k)]
  iapply (wp_storeIdx_cell 𝒱 bd E _ _ (storeIdx_mix f v30 hv t k uI _)) $$ HI
  iintro HI
  iapply (wp_storeIdx_cell 𝒱 bd E _ _ (storeIdx_mix g v30 hv t k uW _)) $$ HW
  iintro HW
  iapply Hk
  isplitl [HI] <;> iassumption

end Cert.Proof.Topk
-- ==== Proof.Group.lean ====
/-
  A slab of 128 tokens: eight groups of sixteen, each the 64 experts in turn and then the columns. From a block of logits
  held in any share, the two result buffers end holding the eight indices and the eight weights of every token of the slab.
-/
module

public import proofs.«01_k».proof.Proof.Scatter

@[expose] public section

noncomputable section

namespace Cert.Proof.Topk

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD) (i : grid1.Coords) (bd : Option 𝒱.V) (E : Set Name)
variable (m : Memref sig .scVector .vmem S64x512 .f32) (mI : Memref sig .scVector .vmem S128x8 .i32) (mW : Memref sig .scVector .vmem S128x8 .f32)
variable {S : Finset (Idx (m.view.loc ((d, PV i) : Thread nD τ)))} {q : PosShare TreeShare} {b : Buf (Elt F) (m.view.loc ((d, PV i) : Thread nD τ))}

theorem wp_load_row (hS : m.view.set ⊆ S) (R : Rows) (t : Fin k1_t2_loop.trips) (r : Fin 4) {α : Type} {Q : α → sProp 𝕄}
    {kk : Vec F S1x16 .f32 → Prog (TpuEff nD τ sig (Elt F) Λ₀ (PV i)) α} :
    (m.view.loc ((d, PV i) : Thread nD τ) ↦[S]{q} b)
      ⊢ iprop(((m.view.loc ((d, PV i) : Thread nD τ) ↦[S]{q} b) -∗ wp frame (wpE defs 𝒱 (d, PV i) bd) E
            (kk (fun x => m.view.read (Elt F) b ((Rect.unit (s := S64x512) (R.off t r) S1x16.size (R.inb t r)).emb x))) Q)
        -∗ wp frame (wpE defs 𝒱 (d, PV i) bd) E
          (Prog.lift (.load m (Rect.unit (s := S64x512) (R.off t r) S1x16.size (R.inb t r)).toLoadRect (View.loadsAt_vmem h_S1x16)) >>= kk) Q) :=
  wp_load 𝒱 (d, PV i) bd E (m := m) (r := (Rect.unit (s := S64x512) (R.off t r) S1x16.size (R.inb t r)).toLoadRect) (k := kk)
    ((View.setOn_subset_set _ _).trans hS)

/-- One trip of the inner loop. -/
theorem wp_innerBody (hS : m.view.set ⊆ S) (R : Rows) (c : Nat) (hR : R.At c) (hc : c + 16 ≤ 512) (t : Fin k1_t2_loop.trips) (st : Acc F) :
    iprop(⌜∀ l, lanes st l = topN (col (m.view.read (Elt F) b) (c + (l 0).val)) (4 * t.val)⌝ ∗ m.view.loc ((d, PV i) : Thread nD τ) ↦[S]{q} b)
      ⊢@{sProp 𝕄} wp frame (wpE defs 𝒱 (d, PV i) bd) E (innerBody i m R t st)
        fun st' => iprop(⌜∀ l, lanes st' l = topN (col (m.view.read (Elt F) b) (c + (l 0).val)) (4 * (t.val + 1))⌝
          ∗ m.view.loc ((d, PV i) : Thread nD τ) ↦[S]{q} b) := by
  iintro ⟨%h, H⟩
  unfold innerBody
  iapply (wp_load_row 𝒱 d i bd E m hS R t 0) $$ H
  iintro H
  iapply (wp_load_row 𝒱 d i bd E m hS R t 1) $$ H
  iintro H
  iapply (wp_load_row 𝒱 d i bd E m hS R t 2) $$ H
  iintro H
  iapply (wp_load_row 𝒱 d i bd E m hS R t 3) $$ H
  iintro H
  iapply le_wp_ret
  isplitr
  · ipureintro; exact lanes_trip R c hR hc t _ st h
  · iexact H

/-- The eight columns of a group, stored from the eight found. -/
theorem wp_storeAll (v30 : IVec S16 32) (hv : ∀ x, (v30 x).toNat = (x 0).val) (t : Fin k1_t1_loop.trips) (st : Acc F)
    (f : Vec F S128x8 .i32) (g : Vec F S128x8 .f32) :
    iprop(Cell (d, PV i) mI f ∗ Cell (d, PV i) mW g)
      ⊢@{sProp 𝕄} wp frame (wpE defs 𝒱 (d, PV i) bd) E (storeAll i mI mW (rowWord v30 t) st)
        fun _ => iprop(Cell (d, PV i) mI (mix f t.val 8 fun l => (lanes st l).2) ∗ Cell (d, PV i) mW (mix g t.val 8 fun l => weight (lanes st l))) := by
  have hstep := fun (k : Fin 8) (n n' : Nat) (hn : k.val = n) (hn' : n + 1 = n') (w : BitVec 32) (hw : w = BitVec.ofNat 32 k.val) (vI : IVec S16 32)
      (vW : FVec F S16 .f32) (hI : vI = fun l => (lanes st l).2 k) (hW : vW = fun l => weight (lanes st l) k) (Q : PUnit → sProp 𝕄) kk =>
    wp_storeCol (Ix := Ix) (Name := Name) (U := U) (Lvl := Lvl) (defs := defs) 𝒱 d i bd E (mI := mI) (mW := mW) v30 hv t k n n' hn hn' w hw f g
      (fun l => (lanes st l).2) (fun l => weight (lanes st l)) vI vW hI hW (α := PUnit) (Q := Q) (kk := kk)
  have h0 : iprop(Cell (d, PV i) mI f ∗ Cell (d, PV i) mW g) ⊢@{sProp 𝕄}
      iprop(Cell (d, PV i) mI (mix f t.val 0 fun l => (lanes st l).2) ∗ Cell (d, PV i) mW (mix g t.val 0 fun l => weight (lanes st l))) := by
    rw [mix_zero, mix_zero]
  refine h0.trans ?_
  obtain ⟨a0, a1, a2, a3, a4, a5, a6, a7, b0, b1, b2, b3, b4, b5, b6, b7⟩ := st
  unfold storeAll
  iintro H
  iapply (hstep 0 0 1 rfl rfl 0#32 rfl b0 _ rfl rfl) $$ H
  iintro H
  iapply (hstep 1 1 2 rfl rfl 1#32 rfl b1 _ rfl rfl) $$ H
  iintro H
  iapply (hstep 2 2 3 rfl rfl 2#32 rfl b2 _ rfl rfl) $$ H
  iintro H
  iapply (hstep 3 3 4 rfl rfl 3#32 rfl b3 _ rfl rfl) $$ H
  iintro H
  iapply (hstep 4 4 5 rfl rfl 4#32 rfl b4 _ rfl rfl) $$ H
  iintro H
  iapply (hstep 5 5 6 rfl rfl 5#32 rfl b5 _ rfl rfl) $$ H
  iintro H
  iapply (hstep 6 6 7 rfl rfl 6#32 rfl b6 _ rfl rfl) $$ H
  iintro H
  iapply (hstep 7 7 8 rfl rfl 7#32 rfl b7 _ rfl rfl) $$ H
  iintro H
  iapply le_wp_ret
  iexact H

/-- A slab's results, from a block of logits and the slab's first column. -/
def slabI (g : S64x512.Idx → F .f32) (C : Nat) : S128x8.Idx → BitVec 32 := fun j => (topN (col g (C + (j 0).val)) 64).2 (j 1)
def slabW (g : S64x512.Idx → F .f32) (C : Nat) : S128x8.Idx → F .f32 := fun j => weight (topN (col g (C + (j 0).val)) 64) (j 1)

/-- A buffer agrees with `v` in its first `n` groups of rows. -/
def Upto {α : Type} (f v : S128x8.Idx → α) (n : Nat) : Prop := ∀ j, (j 0).val < 16 * n → f j = v j

theorem upto_mix {α : Type} (f v : S128x8.Idx → α) (n : Nat) (u : S16.Idx → Fin 8 → α) (h : Upto f v n)
    (hu : ∀ j : S128x8.Idx, (j 0).val / 16 = n → u (laneOf (j 0).val) (j 1) = v j) : Upto (mix f n 8 u) v (n + 1) := by
  intro j hj
  have h1 : (j 1).val < 8 := (j 1).isLt
  unfold mix
  by_cases hn : (j 0).val / 16 = n
  · rw [if_pos ⟨hn, h1⟩]; exact hu j hn
  · rw [if_neg (fun hh => hn hh.1)]; exact h j (by omega)

theorem wp_groupBody (hS : m.view.set ⊆ S) (v30 : IVec S16 32) (hv : ∀ x, (v30 x).toNat = (x 0).val) (R : Fin k1_t1_loop.trips → Rows) (C : Nat)
    (hC : C + 128 ≤ 512) (hR : ∀ t, (R t).At (C + 16 * t.val)) (t : Fin k1_t1_loop.trips) (u : Unit)
    (f : Vec F S128x8 .i32) (g : Vec F S128x8 .f32) :
    iprop((m.view.loc ((d, PV i) : Thread nD τ) ↦[S]{q} b) ∗ Cell (d, PV i) mI f ∗ Cell (d, PV i) mW g)
      ⊢@{sProp 𝕄} wp frame (wpE defs 𝒱 (d, PV i) bd) E (groupBody i m mI mW v30 R t u) fun _ =>
        iprop((m.view.loc ((d, PV i) : Thread nD τ) ↦[S]{q} b)
          ∗ Cell (d, PV i) mI (mix f t.val 8 fun l => (topN (col (m.view.read (Elt F) b) (C + 16 * t.val + (l 0).val)) 64).2)
          ∗ Cell (d, PV i) mW (mix g t.val 8 fun l => weight (topN (col (m.view.read (Elt F) b) (C + 16 * t.val + (l 0).val)) 64))) := by
  have ht : t.val < 8 := trips1 ▸ t.isLt
  iintro ⟨H, HIW⟩
  unfold groupBody
  iapply (Scf.wp_for_bind frame (wpE defs 𝒱 (d, PV i) bd) E k1_t2_loop.lb k1_t2_loop.ub k1_t2_loop.st k1_t2_ok acc0 (innerBody i m (R t))
    (fun n st => iprop(⌜∀ l, lanes st l = topN (col (m.view.read (Elt F) b) (C + 16 * t.val + (l 0).val)) (4 * n)⌝
      ∗ m.view.loc ((d, PV i) : Thread nD τ) ↦[S]{q} b))
    (fun k acc => wp_innerBody 𝒱 d i bd E m hS (R t) (C + 16 * t.val) (hR t) (by omega) k acc)) $$ [H]
  · isplitr
    · ipureintro; exact fun l => lanes_acc0 _ l
    · iexact H
  iintro %st ⟨%h, H⟩
  ihave Hw := (wp_storeAll (defs := defs) 𝒱 d i bd E mI mW v30 hv t st f g) $$ HIW
  rw [show (fun l => (lanes st l).2) = fun l => (topN (col (m.view.read (Elt F) b) (C + 16 * t.val + (l 0).val)) 64).2 from
      funext fun l => congrArg Prod.snd (h l),
    show (fun l => weight (lanes st l)) = fun l => weight (topN (col (m.view.read (Elt F) b) (C + 16 * t.val + (l 0).val)) 64) from
      funext fun l => congrArg weight (h l)]
  iapply (wp_wand_r frame (wpE defs 𝒱 (d, PV i) bd) E)
  isplitl [Hw]
  · iexact Hw
  iintro %u ⟨HI, HW⟩
  isplitl [H]; · iexact H
  isplitl [HI]; · iexact HI
  iexact HW

/-- The slab: from any contents, the two buffers end at the slab's indices and weights. -/
theorem wp_slab (hS : m.view.set ⊆ S) (v30 : IVec S16 32) (hv : ∀ x, (v30 x).toNat = (x 0).val) (R : Fin k1_t1_loop.trips → Rows) (C : Nat)
    (hC : C + 128 ≤ 512) (hR : ∀ t, (R t).At (C + 16 * t.val)) (f : Vec F S128x8 .i32) (g : Vec F S128x8 .f32)
    {α : Type} {Q : α → sProp 𝕄} {kk : Unit → Prog (TpuEff nD τ sig (Elt F) Λ₀ (PV i)) α} :
    iprop((m.view.loc ((d, PV i) : Thread nD τ) ↦[S]{q} b) ∗ Cell (d, PV i) mI f ∗ Cell (d, PV i) mW g)
      ⊢@{sProp 𝕄} iprop(((m.view.loc ((d, PV i) : Thread nD τ) ↦[S]{q} b)
            ∗ Cell (d, PV i) mI (slabI (m.view.read (Elt F) b) C) ∗ Cell (d, PV i) mW (slabW (m.view.read (Elt F) b) C)
            -∗ wp frame (wpE defs 𝒱 (d, PV i) bd) E (kk ()) Q)
        -∗ wp frame (wpE defs 𝒱 (d, PV i) bd) E (Scf.Loop.for k1_t1_loop k1_t1_ok () (groupBody i m mI mW v30 R) >>= kk) Q) := by
  iintro ⟨H, HI, HW⟩ Hk
  iapply (Scf.wp_for_bind frame (wpE defs 𝒱 (d, PV i) bd) E k1_t1_loop.lb k1_t1_loop.ub k1_t1_loop.st k1_t1_ok () (groupBody i m mI mW v30 R)
    (fun n _ => iprop((m.view.loc ((d, PV i) : Thread nD τ) ↦[S]{q} b)
      ∗ (∃ f', ⌜Upto f' (slabI (m.view.read (Elt F) b) C) n⌝ ∗ Cell (d, PV i) mI f')
      ∗ (∃ g', ⌜Upto g' (slabW (m.view.read (Elt F) b) C) n⌝ ∗ Cell (d, PV i) mW g')))
    (fun t u => ?_)) $$ [H HI HW]
  rotate_left
  · isplitl [H]; · iexact H
    isplitl [HI]
    · iexists f; isplitr
      · ipureintro; exact fun j hj => absurd hj (by omega)
      · iexact HI
    · iexists g; isplitr
      · ipureintro; exact fun j hj => absurd hj (by omega)
      · iexact HW
  · iintro %u ⟨H, ⟨%f', %hf, HI⟩, ⟨%g', %hg, HW⟩⟩
    have hf' : f' = slabI (m.view.read (Elt F) b) C := funext fun j => hf j (by
      have h0 : (j 0).val < 128 := (j 0).isLt
      have := trips1; unfold Scf.Loop.trips at this; omega)
    have hg' : g' = slabW (m.view.read (Elt F) b) C := funext fun j => hg j (by
      have h0 : (j 0).val < 128 := (j 0).isLt
      have := trips1; unfold Scf.Loop.trips at this; omega)
    subst hf' hg'
    iapply Hk
    isplitl [H]; · iexact H
    isplitl [HI] <;> iassumption
  · iintro ⟨H, ⟨%f', %hf, HI⟩, ⟨%g', %hg, HW⟩⟩
    ihave Hw := (wp_groupBody (defs := defs) 𝒱 d i bd E m mI mW hS v30 hv R C hC hR t u f' g') $$ [H HI HW]
    · isplitl [H]; · iexact H
      isplitl [HI] <;> iassumption
    iapply (wp_wand_r frame (wpE defs 𝒱 (d, PV i) bd) E)
    isplitl [Hw]
    · iexact Hw
    iintro %u ⟨H, HI, HW⟩
    isplitl [H]; · iexact H
    have hrow : ∀ j : S128x8.Idx, (j 0).val / 16 = t.val → C + 16 * t.val + ((laneOf (j 0).val) 0).val = C + (j 0).val := by
      intro j hj; show C + 16 * t.val + (j 0).val % 16 = _; omega
    isplitl [HI]
    · iexists _; isplitr
      rotate_left
      · iexact HI
      · ipureintro
        exact upto_mix _ _ _ _ hf fun j hj => by unfold slabI; rw [hrow j hj]
    · iexists _; isplitr
      rotate_left
      · iexact HW
      · ipureintro
        exact upto_mix _ _ _ _ hg fun j hj => by unfold slabW; rw [hrow j hj]

/-- The same, the loop alone. -/
theorem wp_slab_post (hS : m.view.set ⊆ S) (v30 : IVec S16 32) (hv : ∀ x, (v30 x).toNat = (x 0).val) (R : Fin k1_t1_loop.trips → Rows) (C : Nat)
    (hC : C + 128 ≤ 512) (hR : ∀ t, (R t).At (C + 16 * t.val)) (f : Vec F S128x8 .i32) (g : Vec F S128x8 .f32) {Φ : Unit → sProp 𝕄} :
    iprop((m.view.loc ((d, PV i) : Thread nD τ) ↦[S]{q} b) ∗ Cell (d, PV i) mI f ∗ Cell (d, PV i) mW g)
      ⊢@{sProp 𝕄} iprop(((m.view.loc ((d, PV i) : Thread nD τ) ↦[S]{q} b)
            ∗ Cell (d, PV i) mI (slabI (m.view.read (Elt F) b) C) ∗ Cell (d, PV i) mW (slabW (m.view.read (Elt F) b) C) -∗ Φ ())
        -∗ wp frame (wpE defs 𝒱 (d, PV i) bd) E (Scf.Loop.for k1_t1_loop k1_t1_ok () (groupBody i m mI mW v30 R)) Φ) := by
  iintro H Hk
  irw [← bind_pure (Scf.Loop.for k1_t1_loop k1_t1_ok () (groupBody i m mI mW v30 R))]
  iapply (wp_slab 𝒱 d i bd E m mI mW hS v30 hv R C hC hR f g) $$ H
  iintro H
  iapply le_wp_ret
  iapply Hk
  iexact H

end Cert.Proof.Topk
-- ==== Proof.Setup.lean ====
/-
  The program as the launch theorem sees it: the calls, the resource algebra, the buffers, and what one tile is handed —
  a block of 512 columns of the logits, and four slabs of 128 tokens of each result.
-/
module

public import proofs.«01_k».proof.Proof.Group
public import Idealize.ShloMosaic.Lib.StableHlo.Run
public import Idealize.ShloMosaic.Lib.Pipeline.Kit

@[expose] public section

noncomputable section

namespace Cert.Proof.Topk

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev lLoc (d : Dev nD) : Loc nD τ sig := (SparseCore.T d).loc main_v1
abbrev iLoc (d : Dev nD) : Loc nD τ sig := (SparseCore.T d).loc main_v2_0
abbrev wLoc (d : Dev nD) : Loc nD τ sig := (SparseCore.T d).loc main_v2_1

local notation "lV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S4x4096x8 EltTy.i32)
local notation "wV" => (Memref.whole Cert.KernelIdeal.main_v2_1_scv : Memref Cert.KernelIdeal.sig Kind.scVector Space.hbm Cert.KernelIdeal.S4x4096x8 EltTy.f32)
local notation "bV" => (Memref.whole Cert.KernelIdeal.cc1_scratch0 : Memref Cert.KernelIdeal.sig Kind.scVector Space.vmem Cert.KernelIdeal.S64x512 EltTy.f32)
local notation "i0V" => (Memref.whole Cert.KernelIdeal.cc1_scratch1 : Memref Cert.KernelIdeal.sig Kind.scVector Space.vmem Cert.KernelIdeal.S128x8 EltTy.i32)
local notation "w0V" => (Memref.whole Cert.KernelIdeal.cc1_scratch2 : Memref Cert.KernelIdeal.sig Kind.scVector Space.vmem Cert.KernelIdeal.S128x8 EltTy.f32)
local notation "i1V" => (Memref.whole Cert.KernelIdeal.cc1_scratch3 : Memref Cert.KernelIdeal.sig Kind.scVector Space.vmem Cert.KernelIdeal.S128x8 EltTy.i32)
local notation "w1V" => (Memref.whole Cert.KernelIdeal.cc1_scratch4 : Memref Cert.KernelIdeal.sig Kind.scVector Space.vmem Cert.KernelIdeal.S128x8 EltTy.f32)

/-! ## What a tile works on -/

/-- The first column of tile `L`'s block. -/
def base (L : grid1.Coords) : Nat := 1024 * (L 1).val + 512 * (L 0).val

theorem base_lt (L : grid1.Coords) : base L + 512 ≤ 16384 := by
  have h0 : (L 0).val < 2 := (L 0).isLt
  have h1 : (L 1).val < 16 := (L 1).isLt
  unfold base; omega

theorem base_mod (L : grid1.Coords) : base L % 4096 + 512 ≤ 4096 := by
  have h0 : (L 0).val < 2 := (L 0).isLt
  have h1 : (L 1).val < 16 := (L 1).isLt
  unfold base; omega

/-- Where slab `r` of tile `L` starts in a result. -/
theorem off3_eq : ∀ (L : grid1.Coords) (r : Fin 4),
    k1_off3 L (BitVec.ofNat 32 (128 * r.val)) = ![(1024 * (L 1).val + 512 * (L 0).val) / 4096, (1024 * (L 1).val + 512 * (L 0).val) % 4096 + 128 * r.val, 0] := by
  decide +kernel

/-- The block of columns, and a slab of each result, as the tile addresses them. -/
abbrev cols (L : grid1.Coords) : Rect S64x16384 := Rect.unit (s := S64x16384) (k1_off1 L) S64x512.size (k1_off1_inb L)
abbrev slab (L : grid1.Coords) (r : Fin 4) : Rect S4x4096x8 := Rect.unit (s := S4x4096x8) (k1_off3 L (BitVec.ofNat 32 (128 * r.val))) S1x128x8.size (k1_off3_inb L r)
abbrev lM (L : grid1.Coords) : Memref sig .scVector .hbm S64x512 .f32 := (lV).slice (cols L) (fun _ => rfl)
abbrev iM (L : grid1.Coords) (r : Fin 4) : Memref sig .scVector .hbm S128x8 .i32 := ((iV).slice (slab L r) (fun _ => rfl)).squeeze S128x8 squeezes_S1x128x8_S128x8
abbrev wM (L : grid1.Coords) (r : Fin 4) : Memref sig .scVector .hbm S128x8 .f32 := ((wV).slice (slab L r) (fun _ => rfl)).squeeze S128x8 squeezes_S1x128x8_S128x8

/-- The column of token `t` of batch row `b` in the logits, downwards over the experts. -/
def ixg (e c : Nat) : S64x16384.Idx := fun a => ⟨(![e, c] : Fin 2 → Nat) a % S64x16384.size a, Nat.mod_lt _ (by fin_cases a <;> decide)⟩

section Results

variable [FloatOps F]

/-- The column of token `t` of batch row `b`, downwards over the experts. -/
def tok (g : S64x16384.Idx → F .f32) (j : S4x4096x8.Idx) : Nat → F .f32 := fun e => g (ixg e (4096 * (j 0).val + (j 1).val))
/-- The two results, as functions of the logits. -/
def resI (g : S64x16384.Idx → F .f32) : S4x4096x8.Idx → BitVec 32 := fun j => (topN (tok g j) 64).2 (j 2)
def resW (g : S64x16384.Idx → F .f32) : S4x4096x8.Idx → F .f32 := fun j => weight (topN (tok g j) 64) (j 2)

end Results

/-! ## Where a slab's elements lie -/

/-- A slab's element, dropped of its unit axis. -/
theorem drop_unit (x : S128x8.Idx) :
    Shape.reshapeEquiv (squeezes_S1x128x8_S128x8.numel_eq) x = (Fin.cons (⟨0, Nat.one_pos⟩ : Fin 1) x : S1x128x8.Idx) := by
  apply Shape.reshapeEquiv_eq_of_rowMajor
  show (Shape.rowMajorPi (Matrix.vecCons 1 ![128, 8]) (Fin.cons ⟨0, Nat.one_pos⟩ x)).val = (Shape.rowMajorPi ![128, 8] x).val
  rw [Shape.rowMajorPi_succ_val]
  show 0 * _ + (Shape.rowMajorPi ![128, 8] x).val = (Shape.rowMajorPi ![128, 8] x).val
  omega

theorem slab_emb (L : grid1.Coords) (r : Fin 4) (x : S128x8.Idx) (a : Fin 3) :
    ((slab L r).emb (Shape.reshapeEquiv (squeezes_S1x128x8_S128x8.numel_eq) x) a).val
      = (![base L / 4096, base L % 4096 + 128 * r.val + (x 0).val, (x 1).val] : Fin 3 → Nat) a := by
  rw [drop_unit]
  show k1_off3 L (BitVec.ofNat 32 (128 * r.val)) a + 1 * _ = _
  rw [off3_eq]
  unfold base
  match a with
  | 0 => rfl
  | 1 => show (1024 * (L 1).val + 512 * (L 0).val) % 4096 + 128 * r.val + 1 * (x 0).val = (1024 * (L 1).val + 512 * (L 0).val) % 4096 + 128 * r.val + (x 0).val; omega
  | 2 => show 0 + 1 * (x 1).val = (x 1).val; omega

theorem iM_emb (L : grid1.Coords) (r : Fin 4) (x : S128x8.Idx) (a : Fin 3) :
    ((iM L r).view.emb x a).val = (![base L / 4096, base L % 4096 + 128 * r.val + (x 0).val, (x 1).val] : Fin 3 → Nat) a :=
  slab_emb L r x a

theorem wM_emb (L : grid1.Coords) (r : Fin 4) (x : S128x8.Idx) (a : Fin 3) :
    ((wM L r).view.emb x a).val = (![base L / 4096, base L % 4096 + 128 * r.val + (x 0).val, (x 1).val] : Fin 3 → Nat) a :=
  slab_emb L r x a

theorem lM_emb (L : grid1.Coords) (x : S64x512.Idx) : (lM L).view.emb x = ixg (x 0).val (base L + (x 1).val) := by
  have hb := base_lt L
  have h0 : (x 0).val < 64 := (x 0).isLt
  have h1 : (x 1).val < 512 := (x 1).isLt
  funext a
  apply Fin.ext
  show k1_off1 L a + 1 * (x a).val = (![(x 0).val, base L + (x 1).val] : Fin 2 → Nat) a % S64x16384.size a
  rw [k1_off1_eq]
  match a with
  | 0 => show 0 + 1 * (x 0).val = (x 0).val % 64; omega
  | 1 => show base L + 1 * (x 1).val = (base L + (x 1).val) % 16384; omega

/-! ## A slab's values are the results' -/

section Values

variable [FloatOps F] (g : S64x16384.Idx → F .f32)

theorem ixg_mod (e e' c : Nat) (h : e % 64 = e' % 64) : ixg e c = ixg e' c := by
  funext a
  apply Fin.ext
  match a with
  | 0 => exact h
  | 1 => rfl

theorem col_tok (L : grid1.Coords) (r : Fin 4) (x : S128x8.Idx) (j : S4x4096x8.Idx)
    (h0 : (j 0).val = base L / 4096) (h1 : (j 1).val = base L % 4096 + 128 * r.val + (x 0).val) :
    col (fun y => g (ixg (y 0).val (base L + (y 1).val))) (128 * r.val + (x 0).val) = tok g j := by
  have hx : (x 0).val < 128 := (x 0).isLt
  have hr : r.val < 4 := r.isLt
  funext e
  show g (ixg (e % 64) (base L + (128 * r.val + (x 0).val) % 512)) = g (ixg e (4096 * (j 0).val + (j 1).val))
  rw [h0, h1, show base L + (128 * r.val + (x 0).val) % 512 = 4096 * (base L / 4096) + (base L % 4096 + 128 * r.val + (x 0).val) by omega,
    ixg_mod (e % 64) e _ (by omega)]

theorem slabI_res (L : grid1.Coords) (r : Fin 4) (x : S128x8.Idx) :
    slabI (fun y => g (ixg (y 0).val (base L + (y 1).val))) (128 * r.val) x = resI g ((iM L r).view.emb x) := by
  unfold slabI resI
  rw [col_tok g L r x _ (iM_emb L r x 0) (iM_emb L r x 1)]
  exact congrArg _ (Fin.ext (iM_emb L r x 2).symm)

theorem slabW_res (L : grid1.Coords) (r : Fin 4) (x : S128x8.Idx) :
    slabW (fun y => g (ixg (y 0).val (base L + (y 1).val))) (128 * r.val) x = resW g ((wM L r).view.emb x) := by
  unfold slabW resW
  rw [col_tok g L r x _ (wM_emb L r x 0) (wM_emb L r x 1)]
  exact congrArg _ (Fin.ext (wM_emb L r x 2).symm)

/-- What a tile's copy of its columns brings. -/
theorem lM_read (L : grid1.Coords) : (lM L).view.read (Elt F) g = fun y => g (ixg (y 0).val (base L + (y 1).val)) := by
  funext y
  refine ((View.read_apply _ _).trans (cast_eq _ _)).trans ?_
  exact congrArg g (lM_emb L y)

end Values

end Cert.Proof.Topk

end
-- ==== Proof.Tile.lean ====
/-
  One tile's task, run once at a symbolic tile: the copy of its columns in, four slabs worked out, each sent off in a pair
  of copies while the next is worked out, each pair waited for before its buffers are used again.
-/
module

public import proofs.«01_k».proof.Proof.Setup

@[expose] public section

noncomputable section

namespace Cert.Proof.Topk

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S4x4096x8 EltTy.i32)
local notation "wV" => (Memref.whole Cert.KernelIdeal.main_v2_1_scv : Memref Cert.KernelIdeal.sig Kind.scVector Space.hbm Cert.KernelIdeal.S4x4096x8 EltTy.f32)
local notation "bV" => (Memref.whole Cert.KernelIdeal.cc1_scratch0 : Memref Cert.KernelIdeal.sig Kind.scVector Space.vmem Cert.KernelIdeal.S64x512 EltTy.f32)
local notation "i0V" => (Memref.whole Cert.KernelIdeal.cc1_scratch1 : Memref Cert.KernelIdeal.sig Kind.scVector Space.vmem Cert.KernelIdeal.S128x8 EltTy.i32)
local notation "w0V" => (Memref.whole Cert.KernelIdeal.cc1_scratch2 : Memref Cert.KernelIdeal.sig Kind.scVector Space.vmem Cert.KernelIdeal.S128x8 EltTy.f32)
local notation "i1V" => (Memref.whole Cert.KernelIdeal.cc1_scratch3 : Memref Cert.KernelIdeal.sig Kind.scVector Space.vmem Cert.KernelIdeal.S128x8 EltTy.i32)
local notation "w1V" => (Memref.whole Cert.KernelIdeal.cc1_scratch4 : Memref Cert.KernelIdeal.sig Kind.scVector Space.vmem Cert.KernelIdeal.S128x8 EltTy.f32)

variable (d : Dev nD) (L : grid1.Coords)

/-! ## The pieces a tile is handed -/

abbrev lSet (L : grid1.Coords) : Finset S64x16384.Idx := (lM L).view.set
abbrev iSet (L : grid1.Coords) (r : Fin 4) : Finset S4x4096x8.Idx := (iM L r).view.set
abbrev wSet (L : grid1.Coords) (r : Fin 4) : Finset S4x4096x8.Idx := (wM L r).view.set
abbrev lPts (g : Buf (Elt F) (lLoc d)) : sProp 𝕄 := lLoc d ↦[lSet L]{fullShare} g
abbrev iPts (r : Fin 4) (f : Buf (Elt F) (iLoc d)) : sProp 𝕄 := iLoc d ↦[iSet L r]{fullShare} f
abbrev wPts (r : Fin 4) (f : Buf (Elt F) (wLoc d)) : sProp 𝕄 := wLoc d ↦[wSet L r]{fullShare} f
abbrev iAll (f : Buf (Elt F) (iLoc d)) : sProp 𝕄 := iprop(iPts d L 0 f ∗ iPts d L 1 f ∗ iPts d L 2 f ∗ iPts d L 3 f)
abbrev wAll (f : Buf (Elt F) (wLoc d)) : sProp 𝕄 := iprop(wPts d L 0 f ∗ wPts d L 1 f ∗ wPts d L 2 f ∗ wPts d L 3 f)

/-! ## A tile's own semaphores and buffers -/

abbrev tV (d : Dev nD) (L : grid1.Coords) : Thread nD τ := (d, PV L)

abbrev cA (d : Dev nD) (L : grid1.Coords) : GSem nD τ sig := (tV d L, .dma cc1_scoped0.sem)
abbrev cB (d : Dev nD) (L : grid1.Coords) : GSem nD τ sig := (tV d L, .dma cc1_scratch5.sem)
abbrev cC (d : Dev nD) (L : grid1.Coords) : GSem nD τ sig := (tV d L, .dma cc1_scratch6.sem)

theorem ownSems0_V :
    (ownSems0 (tV d L) : sProp 𝕄)
      = iprop(semVal (cA d L) 0 ∗ semVal (cB d L) 0 ∗ semVal (cC d L) 0
          ∗ bigSep ((((ownCells (tV d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc1_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc1_scratch5.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc1_scratch6.sem : SemLoc sig).isScoped .scVector = true; decide⟩⟩⟩)]

/-- What is left of a tile's buffers beside its five. -/
def restBufs : sProp 𝕄 :=
  bigSep ((((((ownRefs (τ := τ) (PV L)).erase ((PV L).devRef cc1_scratch0)).erase ((PV L).devRef cc1_scratch1)).erase ((PV L).devRef cc1_scratch2)).erase
    ((PV L).devRef cc1_scratch3)).erase ((PV L).devRef cc1_scratch4)) fun b => iprop(∃ f, ((d, b) : Loc nD τ sig) ↦{fullShare} f)

theorem ownBufs_V :
    (ownBufs (tV d L) : sProp 𝕄)
      = iprop((∃ f, (tV d L).loc cc1_scratch0 ↦{fullShare} f) ∗ (∃ f, (tV d L).loc cc1_scratch1 ↦{fullShare} f)
          ∗ (∃ f, (tV d L).loc cc1_scratch2 ↦{fullShare} f) ∗ (∃ f, (tV d L).loc cc1_scratch3 ↦{fullShare} f)
          ∗ (∃ f, (tV d L).loc cc1_scratch4 ↦{fullShare} f) ∗ restBufs d L) := by
  have hm : ∀ b : Ref sig .scVector, ((PV L).devRef b).owner = .proc (PV L) → (PV L).devRef b ∈ ownRefs (τ := τ) (PV L) :=
    fun b h => SparseCore.Cfg.mem_ownRefs_of_owner (p := PV L) (b := (PV L).devRef b) h
  have hne : ∀ b b' : Ref sig .scVector, b ≠ b' → (PV L).devRef b ≠ (PV L).devRef b' := fun b b' h e => h (Proc.devRef_injective _ e)
  unfold SparseCore.Cfg.ownBufs restBufs
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide), Finset.mem_erase.mpr ⟨hne cc1_scratch2 cc1_scratch0 (by decide), hm cc1_scratch2 rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide), hm cc1_scratch3 rfl⟩⟩⟩),
    SparseCore.bigSep_erase' (Finset.mem_erase.mpr ⟨hne cc1_scratch4 cc1_scratch3 (by decide), Finset.mem_erase.mpr ⟨hne cc1_scratch4 cc1_scratch2 (by decide),
      Finset.mem_erase.mpr ⟨hne cc1_scratch4 cc1_scratch1 (by decide), Finset.mem_erase.mpr ⟨hne cc1_scratch4 cc1_scratch0 (by decide), hm cc1_scratch4 rfl⟩⟩⟩⟩)]

variable [FloatOps F]

/-- A whole buffer held at `v`. -/
theorem cell_whole (c : Thread nD τ) (b : Ref sig c.2.kind) (v : Vec F b.ty.shape b.ty.elt) :
    (Cell c (Memref.whole b) v : sProp 𝕄) = (c.loc b ↦{fullShare} v : sProp 𝕄) := by
  have hr : ∀ f : Buf (Elt F) (c.loc b), ((Memref.whole b).access (.whole _)).read (Elt F) f = f := fun f => Memref.read_access_whole _ _ f
  have hs : (((Memref.whole b).access (.whole _)).set : Finset (Idx (c.loc b))) = Finset.univ := Memref.set_access_whole _
  have h1 : (Cell c (Memref.whole b) v : sProp 𝕄) ⊢ (c.loc b ↦{fullShare} v : sProp 𝕄) := by
    unfold Cell
    iintro ⟨%f, %h, H⟩
    rw [hr] at h
    subst h
    iapply (Entails.of_eq (show (((Memref.whole b).access (.whole _)).loc c ↦[((Memref.whole b).access (.whole _)).set]{fullShare} f : sProp 𝕄) = (c.loc b ↦{fullShare} f : sProp 𝕄) by rw [hs]))
    iexact H
  have h2 : (c.loc b ↦{fullShare} v : sProp 𝕄) ⊢ (Cell c (Memref.whole b) v : sProp 𝕄) := by
    unfold Cell
    iintro H
    iexists v
    isplitr; · ipureintro; exact hr v
    iapply (Entails.of_eq (show (c.loc b ↦{fullShare} v : sProp 𝕄) = (((Memref.whole b).access (.whole _)).loc c ↦[((Memref.whole b).access (.whole _)).set]{fullShare} v : sProp 𝕄) by rw [hs]))
    iexact H
  exact BI.Entails.antisymm h1 h2

/-- The same, at the buffer's view. -/
theorem cell_view (c : Thread nD τ) (b : Ref sig c.2.kind) (v : Vec F b.ty.shape b.ty.elt) :
    (Cell c (Memref.whole b) v : sProp 𝕄) = ((Memref.whole b).view.loc c ↦{fullShare} v : sProp 𝕄) := cell_whole c b v

theorem iota_toNat (x : S16.Idx) : ((iota Kind.scVector S16 32 [0] iota_S16_d0_w32_scVector : IVec S16 32) x).toNat = (x 0).val := by
  have h : (x 0).val < 16 := (x 0).isLt
  show (BitVec.ofNat 32 ((0 : Nat) * 16 + (x 0).val)).toNat = (x 0).val
  simp; omega

theorem rows0_at (t : Fin k1_t1_loop.trips) : (rows0 t).At (0 + 16 * t.val) := fun t' r => by
  show k1_off2 t t' (BitVec.ofNat 32 r.val) = _
  rw [k1_off2_eq]; simp
theorem rows1_at (t : Fin k1_t1_loop.trips) : (rows1 t).At (128 + 16 * t.val) := fun t' r => by
  show k1_off4 t t' (BitVec.ofNat 32 r.val) = _
  rw [k1_off4_eq]; simp; omega
theorem rows2_at (t : Fin k1_t1_loop.trips) : (rows2 t).At (256 + 16 * t.val) := fun t' r => by
  show k1_off5 t t' (BitVec.ofNat 32 r.val) = _
  rw [k1_off5_eq]; simp; omega
theorem rows3_at (t : Fin k1_t1_loop.trips) : (rows3 t).At (384 + 16 * t.val) := fun t' r => by
  show k1_off6 t t' (BitVec.ofNat 32 r.val) = _
  rw [k1_off6_eq]; simp; omega

/-- The block of columns a tile copies in. -/
abbrev blk (g : S64x16384.Idx → F .f32) (L : grid1.Coords) : Vec F S64x512 .f32 := fun y => g (ixg (y 0).val (base L + (y 1).val))

/-- A slab of each result, at the word the program writes for its offset. -/
abbrev iK (L : grid1.Coords) (w : BitVec 32) (h : ∀ a, k1_off3 L w a + S1x128x8.size a ≤ S4x4096x8.size a) : Memref sig .scVector .hbm S128x8 .i32 :=
  ((iV).slice (Rect.unit (s := S4x4096x8) (k1_off3 L w) S1x128x8.size h) (fun _ => rfl)).squeeze S128x8 squeezes_S1x128x8_S128x8
abbrev wK (L : grid1.Coords) (w : BitVec 32) (h : ∀ a, k1_off3 L w a + S1x128x8.size a ≤ S4x4096x8.size a) : Memref sig .scVector .hbm S128x8 .f32 :=
  ((wV).slice (Rect.unit (s := S4x4096x8) (k1_off3 L w) S1x128x8.size h) (fun _ => rfl)).squeeze S128x8 squeezes_S1x128x8_S128x8

/-! ## The program, flattened -/

abbrev TP (F : FTy → Type) (L : grid1.Coords) (α : Type) : Type 1 := Prog (TpuEff nD τ sig (Elt F) Λ₀ (PV L)) α

/-- One slab's two copies out, and the two waits for them. -/
abbrev sendI (m : Memref sig .scVector .vmem S128x8 .i32) (hm : m.IsWhole) (sm : DmaSems sig S_) (r : Fin 4) (w : BitVec 32) (h : BitVec.ofNat 32 (128 * r.val) = w) :
    TP F L PUnit :=
  Prog.lift (.enqueueDma m (.here (iK L w (h ▸ k1_off3_inb L r))) (.dma sm.sem) hm.wordExact ((View.wordExact_bits rfl).reshape _ _) ⟨Or.inl rfl, trivial⟩)
abbrev sendW (m : Memref sig .scVector .vmem S128x8 .f32) (hm : m.IsWhole) (sm : DmaSems sig S_) (r : Fin 4) (w : BitVec 32) (h : BitVec.ofNat 32 (128 * r.val) = w) :
    TP F L PUnit :=
  Prog.lift (.enqueueDma m (.here (wK L w (h ▸ k1_off3_inb L r))) (.dma sm.sem) hm.wordExact ((View.wordExact_bits rfl).reshape _ _) ⟨Or.inl rfl, trivial⟩)
abbrev awaitI (m : Memref sig .scVector .vmem S128x8 .i32) (hm : m.IsWhole) (sm : DmaSems sig S_) (r : Fin 4) (w : BitVec 32) (h : BitVec.ofNat 32 (128 * r.val) = w) :
    TP F L PUnit :=
  Prog.lift (.waitDma2 sm.sem m (iK L w (h ▸ k1_off3_inb L r)) hm.wordExact ((View.wordExact_bits rfl).reshape _ _))
abbrev awaitW (m : Memref sig .scVector .vmem S128x8 .f32) (hm : m.IsWhole) (sm : DmaSems sig S_) (r : Fin 4) (w : BitVec 32) (h : BitVec.ofNat 32 (128 * r.val) = w) :
    TP F L PUnit :=
  Prog.lift (.waitDma2 sm.sem m (wK L w (h ▸ k1_off3_inb L r)) hm.wordExact ((View.wordExact_bits rfl).reshape _ _))

/-- A slab worked out. -/
abbrev work (mI : Memref sig .scVector .vmem S128x8 .i32) (mW : Memref sig .scVector .vmem S128x8 .f32) (R : Fin k1_t1_loop.trips → Rows) : TP F L Unit :=
  Scf.Loop.for k1_t1_loop k1_t1_ok () (groupBody L bV mI mW (iota Kind.scVector S16 32 [0] iota_S16_d0_w32_scVector) R)

def tileProg : TP F L PUnit := do
  Prog.lift (.enqueueDma (lM L) (.here bV) (.dma cc1_scoped0.sem) (View.wordExact_bits rfl) (Memref.isWhole_whole _).wordExact ⟨Or.inl rfl, trivial⟩)
  Prog.lift (.waitDma2 cc1_scoped0.sem (lM L) bV (View.wordExact_bits rfl) (Memref.isWhole_whole _).wordExact)
  work L i0V w0V rows0
  sendI L i0V (Memref.isWhole_whole _) cc1_scratch5 0 0#32 rfl
  sendW L w0V (Memref.isWhole_whole _) cc1_scratch5 0 0#32 rfl
  work L i1V w1V rows1
  sendI L i1V (Memref.isWhole_whole _) cc1_scratch6 1 128#32 rfl
  sendW L w1V (Memref.isWhole_whole _) cc1_scratch6 1 128#32 rfl
  awaitI L i0V (Memref.isWhole_whole _) cc1_scratch5 0 0#32 rfl
  awaitW L w0V (Memref.isWhole_whole _) cc1_scratch5 0 0#32 rfl
  work L i0V w0V rows2
  sendI L i0V (Memref.isWhole_whole _) cc1_scratch5 2 256#32 rfl
  sendW L w0V (Memref.isWhole_whole _) cc1_scratch5 2 256#32 rfl
  awaitI L i1V (Memref.isWhole_whole _) cc1_scratch6 1 128#32 rfl
  awaitW L w1V (Memref.isWhole_whole _) cc1_scratch6 1 128#32 rfl
  work L i1V w1V rows3
  sendI L i1V (Memref.isWhole_whole _) cc1_scratch6 3 384#32 rfl
  sendW L w1V (Memref.isWhole_whole _) cc1_scratch6 3 384#32 rfl
  awaitI L i0V (Memref.isWhole_whole _) cc1_scratch5 2 256#32 rfl
  awaitW L w0V (Memref.isWhole_whole _) cc1_scratch5 2 256#32 rfl
  awaitI L i1V (Memref.isWhole_whole _) cc1_scratch6 3 384#32 rfl
  awaitW L w1V (Memref.isWhole_whole _) cc1_scratch6 3 384#32 rfl
  pure ⟨⟩

theorem kernel_eq :
    cc1_topk_kernel (F := F) L lV (Memref.isWhole_whole _) iV (Memref.isWhole_whole _) wV (Memref.isWhole_whole _)
        bV (Memref.isWhole_whole _) i0V (Memref.isWhole_whole _) w0V (Memref.isWhole_whole _) i1V (Memref.isWhole_whole _) w1V (Memref.isWhole_whole _)
        cc1_scratch5 cc1_scratch6 cc1_scoped0
      = tileProg L := by
  simp only [cc1_topk_kernel_eq_skeleton]; unfold cc1_topk_kernel_skel
  simp only [k1_part17_eq_skeleton, k1_part18_eq_skeleton, k1_part19_eq_skeleton]
  unfold k1_part17_skel k1_part18_skel k1_part19_skel
  simp only [bind_assoc, pure_bind, t1_body_eq, t3_body_eq, t5_body_eq, t7_body_eq]
  unfold tileProg
  rfl

end Cert.Proof.Topk

end
-- ==== Proof.Split.lean ====
/-
  The whole arrays and the tiles' pieces: the 32 tiles' blocks of 512 columns make up the logits, and the 32 x 4 slabs of 128
  rows make up each result. So a whole array is held exactly when every tile's piece of it is.
-/
module

public import proofs.«01_k».proof.Proof.Tile

@[expose] public section

noncomputable section

namespace Cert.Proof.Topk

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The grid place of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

abbrev tl (t : Fin 2 × Fin 16) : grid1.Coords := coordsV t.1 t.2

theorem base_tl (t : Fin 2 × Fin 16) : base (tl t) = 1024 * t.2.val + 512 * t.1.val := rfl

theorem mem_lSet (t : Fin 2 × Fin 16) (y : S64x16384.Idx) : y ∈ lSet (tl t) ↔ (y 1).val / 512 = 2 * t.2.val + t.1.val := by
  have hb := base_lt (tl t)
  rw [base_tl] at hb
  have hy0 : (y 0).val < 64 := (y 0).isLt
  have hy1 : (y 1).val < 16384 := (y 1).isLt
  have h1 : t.1.val < 2 := t.1.isLt
  have h2 : t.2.val < 16 := t.2.isLt
  constructor
  · intro h
    obtain ⟨x, -, rfl⟩ := Finset.mem_map.mp h
    have hx : (x 1).val < 512 := (x 1).isLt
    rw [lM_emb, base_tl]
    show (1024 * t.2.val + 512 * t.1.val + (x 1).val) % 16384 / 512 = _
    omega
  · intro h
    refine Finset.mem_map.mpr ⟨fun a => match a with | 0 => ⟨(y 0).val, hy0⟩ | 1 => ⟨(y 1).val % 512, Nat.mod_lt _ (by decide)⟩, Finset.mem_univ _, ?_⟩
    rw [lM_emb, base_tl]
    funext a
    apply Fin.ext
    match a with
    | 0 => show (y 0).val % 64 = (y 0).val; omega
    | 1 => show (1024 * t.2.val + 512 * t.1.val + (y 1).val % 512) % 16384 = (y 1).val; omega

theorem mem_slabSet (t : Fin 2 × Fin 16) (r : Fin 4) (y : S4x4096x8.Idx) (e : S128x8.Idx ↪ S4x4096x8.Idx)
    (he : ∀ x a, (e x a).val = (![base (tl t) / 4096, base (tl t) % 4096 + 128 * r.val + (x 0).val, (x 1).val] : Fin 3 → Nat) a) :
    y ∈ Finset.univ.map e ↔ (4096 * (y 0).val + (y 1).val) / 128 = 4 * (2 * t.2.val + t.1.val) + r.val := by
  have hy0 : (y 0).val < 4 := (y 0).isLt
  have hy1 : (y 1).val < 4096 := (y 1).isLt
  have hy2 : (y 2).val < 8 := (y 2).isLt
  have h1 : t.1.val < 2 := t.1.isLt
  have h2 : t.2.val < 16 := t.2.isLt
  have h3 : r.val < 4 := r.isLt
  rw [base_tl] at he
  constructor
  · intro h
    obtain ⟨x, -, rfl⟩ := Finset.mem_map.mp h
    have hx : (x 0).val < 128 := (x 0).isLt
    have e0 : (e x 0).val = (1024 * t.2.val + 512 * t.1.val) / 4096 := he x 0
    have e1 : (e x 1).val = (1024 * t.2.val + 512 * t.1.val) % 4096 + 128 * r.val + (x 0).val := he x 1
    rw [e0, e1]
    omega
  · intro h
    refine Finset.mem_map.mpr ⟨fun a => match a with | 0 => ⟨(y 1).val % 128, Nat.mod_lt _ (by decide)⟩ | 1 => ⟨(y 2).val, hy2⟩, Finset.mem_univ _, ?_⟩
    funext a
    apply Fin.ext
    rw [he]
    match a with
    | 0 => show (1024 * t.2.val + 512 * t.1.val) / 4096 = (y 0).val; omega
    | 1 => show (1024 * t.2.val + 512 * t.1.val) % 4096 + 128 * r.val + (y 1).val % 128 = (y 1).val; omega
    | 2 => rfl

theorem mem_iSet (t : Fin 2 × Fin 16) (r : Fin 4) (y : S4x4096x8.Idx) :
    y ∈ iSet (tl t) r ↔ (4096 * (y 0).val + (y 1).val) / 128 = 4 * (2 * t.2.val + t.1.val) + r.val :=
  mem_slabSet t r y (iM (tl t) r).view.emb (iM_emb (tl t) r)

theorem mem_wSet (t : Fin 2 × Fin 16) (r : Fin 4) (y : S4x4096x8.Idx) :
    y ∈ wSet (tl t) r ↔ (4096 * (y 0).val + (y 1).val) / 128 = 4 * (2 * t.2.val + t.1.val) + r.val :=
  mem_slabSet t r y (wM (tl t) r).view.emb (wM_emb (tl t) r)

theorem l_disjoint : ∀ t ∈ (Finset.univ : Finset (Fin 2 × Fin 16)), ∀ t' ∈ (Finset.univ : Finset (Fin 2 × Fin 16)), t ≠ t' → Disjoint (lSet (tl t)) (lSet (tl t')) := by
  intro t _ t' _ hne
  rw [Finset.disjoint_left]
  intro y hy hy'
  rw [mem_lSet] at hy hy'
  have h1 := t.1.isLt
  have h2 := t'.1.isLt
  exact hne (Prod.ext (Fin.ext (by omega)) (Fin.ext (by omega)))

theorem l_cover : (Finset.univ : Finset (Fin 2 × Fin 16)).biUnion (fun t => lSet (tl t)) = Finset.univ := by
  ext y
  have hy1 : (y 1).val < 16384 := (y 1).isLt
  simp only [Finset.mem_biUnion, Finset.mem_univ, true_and, iff_true]
  refine ⟨(⟨(y 1).val / 512 % 2, Nat.mod_lt _ (by decide)⟩, ⟨(y 1).val / 1024, by omega⟩), ?_⟩
  rw [mem_lSet]
  show (y 1).val / 512 = 2 * ((y 1).val / 1024) + (y 1).val / 512 % 2
  omega

theorem slab_disjoint (s : Fin 2 × Fin 16 → Fin 4 → Finset S4x4096x8.Idx)
    (hs : ∀ t r y, y ∈ s t r ↔ (4096 * (y 0).val + (y 1).val) / 128 = 4 * (2 * t.2.val + t.1.val) + r.val) :
    ∀ t ∈ (Finset.univ : Finset ((Fin 2 × Fin 16) × Fin 4)), ∀ t' ∈ (Finset.univ : Finset ((Fin 2 × Fin 16) × Fin 4)), t ≠ t' → Disjoint (s t.1 t.2) (s t'.1 t'.2) := by
  intro t _ t' _ hne
  rw [Finset.disjoint_left]
  intro y hy hy'
  rw [hs] at hy hy'
  have h1 := t.1.1.isLt
  have h2 := t'.1.1.isLt
  have h3 := t.2.isLt
  have h4 := t'.2.isLt
  exact hne (Prod.ext (Prod.ext (Fin.ext (by omega)) (Fin.ext (by omega))) (Fin.ext (by omega)))

theorem slab_cover (s : Fin 2 × Fin 16 → Fin 4 → Finset S4x4096x8.Idx)
    (hs : ∀ t r y, y ∈ s t r ↔ (4096 * (y 0).val + (y 1).val) / 128 = 4 * (2 * t.2.val + t.1.val) + r.val) :
    (Finset.univ : Finset ((Fin 2 × Fin 16) × Fin 4)).biUnion (fun t => s t.1 t.2) = Finset.univ := by
  ext y
  have hy0 : (y 0).val < 4 := (y 0).isLt
  have hy1 : (y 1).val < 4096 := (y 1).isLt
  simp only [Finset.mem_biUnion, Finset.mem_univ, true_and, iff_true]
  refine ⟨((⟨(4096 * (y 0).val + (y 1).val) / 512 % 2, Nat.mod_lt _ (by decide)⟩, ⟨(4096 * (y 0).val + (y 1).val) / 1024, by omega⟩),
    ⟨(4096 * (y 0).val + (y 1).val) / 128 % 4, Nat.mod_lt _ (by decide)⟩), ?_⟩
  rw [hs]
  show (4096 * (y 0).val + (y 1).val) / 128
    = 4 * (2 * ((4096 * (y 0).val + (y 1).val) / 1024) + (4096 * (y 0).val + (y 1).val) / 512 % 2) + (4096 * (y 0).val + (y 1).val) / 128 % 4
  omega

/-- Four of a kind. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

variable (d : Dev nD)

theorem l_split (g : Buf (Elt F) (lLoc d)) :
    (lLoc d ↦{fullShare} g : sProp 𝕄) = bigSep Finset.univ fun c : Fin 2 => bigSep Finset.univ fun i : Fin 16 => lPts d (tl (c, i)) g := by
  rw [← bigSep_univ_prod fun t : Fin 2 × Fin 16 => lPts d (tl t) g, ← pointsTo_biUnion Finset.univ (ℓ := lLoc d) (fun t => lSet (tl t)) l_disjoint]
  exact congrArg (fun s => (lLoc d ↦[s]{fullShare} g : sProp 𝕄)) l_cover.symm

theorem i_split (f : Buf (Elt F) (iLoc d)) :
    (iLoc d ↦{fullShare} f : sProp 𝕄) = bigSep Finset.univ fun c : Fin 2 => bigSep Finset.univ fun i : Fin 16 => iAll d (tl (c, i)) f := by
  rw [← bigSep_univ_prod fun t : Fin 2 × Fin 16 => iAll d (tl t) f,
    show (bigSep Finset.univ fun t : Fin 2 × Fin 16 => iAll d (tl t) f) = bigSep Finset.univ fun t : Fin 2 × Fin 16 => bigSep Finset.univ fun r : Fin 4 => iPts d (tl t) r f from
      bigSep_congr fun t _ => (bigSep_four fun r => iPts d (tl t) r f).symm,
    ← bigSep_univ_prod fun t : (Fin 2 × Fin 16) × Fin 4 => iPts d (tl t.1) t.2 f,
    ← pointsTo_biUnion Finset.univ (ℓ := iLoc d) (fun t : (Fin 2 × Fin 16) × Fin 4 => iSet (tl t.1) t.2) (slab_disjoint (fun t r => iSet (tl t) r) mem_iSet)]
  exact congrArg (fun s => (iLoc d ↦[s]{fullShare} f : sProp 𝕄)) (slab_cover (fun t r => iSet (tl t) r) mem_iSet).symm

theorem w_split (f : Buf (Elt F) (wLoc d)) :
    (wLoc d ↦{fullShare} f : sProp 𝕄) = bigSep Finset.univ fun c : Fin 2 => bigSep Finset.univ fun i : Fin 16 => wAll d (tl (c, i)) f := by
  rw [← bigSep_univ_prod fun t : Fin 2 × Fin 16 => wAll d (tl t) f,
    show (bigSep Finset.univ fun t : Fin 2 × Fin 16 => wAll d (tl t) f) = bigSep Finset.univ fun t : Fin 2 × Fin 16 => bigSep Finset.univ fun r : Fin 4 => wPts d (tl t) r f from
      bigSep_congr fun t _ => (bigSep_four fun r => wPts d (tl t) r f).symm,
    ← bigSep_univ_prod fun t : (Fin 2 × Fin 16) × Fin 4 => wPts d (tl t.1) t.2 f,
    ← pointsTo_biUnion Finset.univ (ℓ := wLoc d) (fun t : (Fin 2 × Fin 16) × Fin 4 => wSet (tl t.1) t.2) (slab_disjoint (fun t r => wSet (tl t) r) mem_wSet)]
  exact congrArg (fun s => (wLoc d ↦[s]{fullShare} f : sProp 𝕄)) (slab_cover (fun t r => wSet (tl t) r) mem_wSet).symm

/-- Everything the tiles are handed, out of the three whole arrays; and back. -/
theorem split_all (g : Buf (Elt F) (lLoc d)) (f0 : Buf (Elt F) (iLoc d)) (f1 : Buf (Elt F) (wLoc d)) :
    (bigSep Finset.univ fun c : Fin 2 => bigSep Finset.univ fun i : Fin 16 => iprop(lPts d (tl (c, i)) g ∗ iAll d (tl (c, i)) f0 ∗ wAll d (tl (c, i)) f1))
      = (iprop((lLoc d ↦{fullShare} g) ∗ (iLoc d ↦{fullShare} f0) ∗ (wLoc d ↦{fullShare} f1)) : sProp 𝕄) := by
  rw [l_split, i_split, w_split]
  simp only [bigSep_sep']

end Cert.Proof.Topk

end
-- ==== Proof.Body.lean ====
/-
  One tile's task, run once at a symbolic tile: from its columns and its slabs of the results, it ends with the columns
  unchanged and the slabs holding the results of those columns.
-/
module

public import proofs.«01_k».proof.Proof.Tile

@[expose] public section

noncomputable section

namespace Cert.Proof.Topk

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S4x4096x8 EltTy.i32)
local notation "wV" => (Memref.whole Cert.KernelIdeal.main_v2_1_scv : Memref Cert.KernelIdeal.sig Kind.scVector Space.hbm Cert.KernelIdeal.S4x4096x8 EltTy.f32)
local notation "bV" => (Memref.whole Cert.KernelIdeal.cc1_scratch0 : Memref Cert.KernelIdeal.sig Kind.scVector Space.vmem Cert.KernelIdeal.S64x512 EltTy.f32)
local notation "i0V" => (Memref.whole Cert.KernelIdeal.cc1_scratch1 : Memref Cert.KernelIdeal.sig Kind.scVector Space.vmem Cert.KernelIdeal.S128x8 EltTy.i32)
local notation "w0V" => (Memref.whole Cert.KernelIdeal.cc1_scratch2 : Memref Cert.KernelIdeal.sig Kind.scVector Space.vmem Cert.KernelIdeal.S128x8 EltTy.f32)
local notation "i1V" => (Memref.whole Cert.KernelIdeal.cc1_scratch3 : Memref Cert.KernelIdeal.sig Kind.scVector Space.vmem Cert.KernelIdeal.S128x8 EltTy.i32)
local notation "w1V" => (Memref.whole Cert.KernelIdeal.cc1_scratch4 : Memref Cert.KernelIdeal.sig Kind.scVector Space.vmem Cert.KernelIdeal.S128x8 EltTy.f32)

variable (d : Dev nD) (L : grid1.Coords)
variable [FloatOps F]

/-- A slab's piece of a result, written with what the slab worked out, is that piece of the result. -/
theorem sentI (g : Buf (Elt F) (lLoc d)) (r : Fin 4) (w : BitVec 32) (hw : BitVec.ofNat 32 (128 * r.val) = w) (f : Buf (Elt F) (iLoc d))
    (x : Vec F S128x8 .i32) (hx : x = slabI (blk g L) (128 * r.val)) :
    ((iK L w (hw ▸ k1_off3_inb L r)).view.loc (tV d L) ↦[(iK L w (hw ▸ k1_off3_inb L r)).view.set]{fullShare}
        (iK L w (hw ▸ k1_off3_inb L r)).view.writes (Elt F) f [⟨Rect.whole S128x8, x⟩] : sProp 𝕄)
      ⊢ iPts d L r (resI g) := by
  subst hw
  refine Entails.of_eq (pointsTo_congr fun i hi => ?_)
  obtain ⟨y, -, rfl⟩ := Finset.mem_map.mp hi
  have h := congrFun (View.read_writes_whole (Val := Elt F) (iM L r).view f x) y
  rw [View.read_apply] at h
  refine ((cast_eq _ _).symm.trans h).trans ?_
  rw [hx]
  exact slabI_res g L r y

theorem sentW (g : Buf (Elt F) (lLoc d)) (r : Fin 4) (w : BitVec 32) (hw : BitVec.ofNat 32 (128 * r.val) = w) (f : Buf (Elt F) (wLoc d))
    (x : Vec F S128x8 .f32) (hx : x = slabW (blk g L) (128 * r.val)) :
    ((wK L w (hw ▸ k1_off3_inb L r)).view.loc (tV d L) ↦[(wK L w (hw ▸ k1_off3_inb L r)).view.set]{fullShare}
        (wK L w (hw ▸ k1_off3_inb L r)).view.writes (Elt F) f [⟨Rect.whole S128x8, x⟩] : sProp 𝕄)
      ⊢ wPts d L r (resW g) := by
  subst hw
  refine Entails.of_eq (pointsTo_congr fun i hi => ?_)
  obtain ⟨y, -, rfl⟩ := Finset.mem_map.mp hi
  have h := congrFun (View.read_writes_whole (Val := Elt F) (wM L r).view f x) y
  rw [View.read_apply] at h
  refine ((cast_eq _ _).symm.trans h).trans ?_
  rw [hx]
  exact slabW_res g L r y

set_option maxHeartbeats 4000000 in
theorem tile_body (hF : (K (F := F)).Facts) (g : Buf (Elt F) (lLoc d)) (f0 : Buf (Elt F) (iLoc d)) (f1 : Buf (Elt F) (wLoc d))
    (O : CellTallies nD τ sig (HIx 1)) (W : Waits sig (HIx 1)) (hO : ∀ g, O g none = 0) :
    iprop(levAts (K (F := F)).L (K (F := F)).lev ∗ emp
        ∗ (lPts d L g ∗ iAll d L f0 ∗ wAll d L f1)
        ∗ scopedBufs (tV d L) ∗ scopedSems0 (tV d L) ∗ owes (tV d L) O W)
      ⊢ wp frame (wpE (defs₀ (F := F)) 𝒱₀ (tV d L) none) Set.univ
          (cc1_topk_kernel L lV (Memref.isWhole_whole _) iV (Memref.isWhole_whole _) wV (Memref.isWhole_whole _)
            bV (Memref.isWhole_whole _) i0V (Memref.isWhole_whole _) w0V (Memref.isWhole_whole _) i1V (Memref.isWhole_whole _) w1V (Memref.isWhole_whole _)
            cc1_scratch5 cc1_scratch6 cc1_scoped0)
          fun _ => iprop((lPts d L g ∗ iAll d L (resI g) ∗ wAll d L (resW g))
            ∗ scopedBufs (tV d L) ∗ scopedSems0 (tV d L)
            ∗ ∃ W', ⌜∀ p ∈ W', p ∈ W ∨ p.2 = none⌝ ∗ owes (tV d L) O W') := by
  rw [kernel_eq]
  unfold tileProg
  rw [(K (F := F)).scopedBufs_V hF d ((L 0).castLE hcore1) ((L 1).castLE hsub1), SparseCore.Cfg.scopedSems0_V (Val := Elt F) d ((L 0).castLE hcore1) ((L 1).castLE hsub1),
    ownSems0_V, ownBufs_V]
  iintro ⟨#Hlv, -, ⟨Hl, ⟨Hi0, Hi1, Hi2, Hi3⟩, Hw0, Hw1, Hw2, Hw3⟩, ⟨⟨%fb, Hb⟩, ⟨%fi0, Hbi0⟩, ⟨%fw0, Hbw0⟩, ⟨%fi1, Hbi1⟩, ⟨%fw1, Hbw1⟩, Hbufs⟩, ⟨HsA, HsB, HsC, Hsems⟩, HO⟩
  ihave Hmw := (show levAts (K (F := F)).L (K (F := F)).lev ⊢ Transfers.MayWaits (tV d L) (default : HIx 1) O from
    (K (F := F)).mayWaits_none (thr := tV d L) hO) $$ Hlv
  have hBB : Transfers.BatchOf (tV d L) (.dma cc1_scratch5.sem) 2 := trivial
  have hCC : Transfers.BatchOf (tV d L) (.dma cc1_scratch6.sem) 2 := trivial
  ihave Hl := (Entails.of_eq (show lPts d L g = ((lM L).view.loc (tV d L) ↦[(lM L).view.set]{fullShare} g : sProp 𝕄) from rfl)) $$ Hl
  ihave Hb := (Entails.of_eq (show ((tV d L).loc cc1_scratch0 ↦{fullShare} fb : sProp 𝕄) = ((bV).view.loc (tV d L) ↦{fullShare} fb : sProp 𝕄) from rfl)) $$ Hb
  ihave Hi0 := (Entails.of_eq (show iPts d L 0 f0 = ((iK L 0#32 (k1_off3_inb L 0)).view.loc (tV d L) ↦[(iK L 0#32 (k1_off3_inb L 0)).view.set]{fullShare} f0 : sProp 𝕄) from rfl)) $$ Hi0
  ihave Hw0 := (Entails.of_eq (show wPts d L 0 f1 = ((wK L 0#32 (k1_off3_inb L 0)).view.loc (tV d L) ↦[(wK L 0#32 (k1_off3_inb L 0)).view.set]{fullShare} f1 : sProp 𝕄) from rfl)) $$ Hw0
  ihave Hi1 := (Entails.of_eq (show iPts d L 1 f0 = ((iK L 128#32 (k1_off3_inb L 1)).view.loc (tV d L) ↦[(iK L 128#32 (k1_off3_inb L 1)).view.set]{fullShare} f0 : sProp 𝕄) from rfl)) $$ Hi1
  ihave Hw1 := (Entails.of_eq (show wPts d L 1 f1 = ((wK L 128#32 (k1_off3_inb L 1)).view.loc (tV d L) ↦[(wK L 128#32 (k1_off3_inb L 1)).view.set]{fullShare} f1 : sProp 𝕄) from rfl)) $$ Hw1
  ihave Hi2 := (Entails.of_eq (show iPts d L 2 f0 = ((iK L 256#32 (k1_off3_inb L 2)).view.loc (tV d L) ↦[(iK L 256#32 (k1_off3_inb L 2)).view.set]{fullShare} f0 : sProp 𝕄) from rfl)) $$ Hi2
  ihave Hw2 := (Entails.of_eq (show wPts d L 2 f1 = ((wK L 256#32 (k1_off3_inb L 2)).view.loc (tV d L) ↦[(wK L 256#32 (k1_off3_inb L 2)).view.set]{fullShare} f1 : sProp 𝕄) from rfl)) $$ Hw2
  ihave Hi3 := (Entails.of_eq (show iPts d L 3 f0 = ((iK L 384#32 (k1_off3_inb L 3)).view.loc (tV d L) ↦[(iK L 384#32 (k1_off3_inb L 3)).view.set]{fullShare} f0 : sProp 𝕄) from rfl)) $$ Hi3
  ihave Hw3 := (Entails.of_eq (show wPts d L 3 f1 = ((wK L 384#32 (k1_off3_inb L 3)).view.loc (tV d L) ↦[(wK L 384#32 (k1_off3_inb L 3)).view.set]{fullShare} f1 : sProp 𝕄) from rfl)) $$ Hw3
  sl_exec
  have hblk : ∀ x : Vec F S64x512 .f32, x = (lM L).view.read (Elt F) g → View.write (Elt F) (bV).view fb x Finset.univ = blk g L :=
    fun x h => (View.write_whole_univ (Val := Elt F) cc1_scratch0 fb x).trans (h.trans (lM_read g L))
  ihave Hb := (show ((bV).view.loc (tV d L) ↦{fullShare} View.write (Elt F) (bV).view fb (tile_body.sl.dma0 d L g) Finset.univ : sProp 𝕄)
      ⊢ ((bV).view.loc (tV d L) ↦{fullShare} blk g L : sProp 𝕄) from Entails.of_eq (congrArg (fun v => ((bV).view.loc (tV d L) ↦{fullShare} v : sProp 𝕄)) (hblk _ rfl))) $$ Hb
  ihave HI0 := (Entails.of_eq (cell_whole (F := F) (tV d L) cc1_scratch1 fi0).symm) $$ Hbi0
  ihave HW0 := (Entails.of_eq (cell_whole (F := F) (tV d L) cc1_scratch2 fw0).symm) $$ Hbw0
  ihave HI1 := (Entails.of_eq (cell_whole (F := F) (tV d L) cc1_scratch3 fi1).symm) $$ Hbi1
  ihave HW1 := (Entails.of_eq (cell_whole (F := F) (tV d L) cc1_scratch4 fw1).symm) $$ Hbw1
  iapply (wp_slab_post (defs := defs₀) 𝒱₀ d L none Set.univ bV i0V w0V (Finset.subset_univ _) _ iota_toNat rows0 0 (by omega) rows0_at fi0 fw0) $$ [Hb HI0 HW0]
  · isplitl [Hb]; · iexact Hb
    isplitl [HI0] <;> iassumption
  iintro ⟨Hb, HI0, HW0⟩
  have hrb : (bV).view.read (Elt F) (blk g L) = blk g L := View.read_whole _ _
  rw [hrb]
  ihave HI0 := (Entails.of_eq (cell_view (F := F) (tV d L) cc1_scratch1 _)) $$ HI0
  ihave HW0 := (Entails.of_eq (cell_view (F := F) (tV d L) cc1_scratch2 _)) $$ HW0
  sl_exec
  iapply (wp_slab_post (defs := defs₀) 𝒱₀ d L none Set.univ bV i1V w1V (Finset.subset_univ _) _ iota_toNat rows1 128 (by omega) rows1_at fi1 fw1) $$ [Hb HI1 HW1]
  · isplitl [Hb]; · iexact Hb
    isplitl [HI1] <;> iassumption
  iintro ⟨Hb, HI1, HW1⟩
  rw [hrb]
  ihave HI1 := (Entails.of_eq (cell_view (F := F) (tV d L) cc1_scratch3 _)) $$ HI1
  ihave HW1 := (Entails.of_eq (cell_view (F := F) (tV d L) cc1_scratch4 _)) $$ HW1
  sl_exec
  ihave HI0 := (Entails.of_eq (cell_view (F := F) (tV d L) cc1_scratch1 _).symm) $$ HI0
  ihave HW0 := (Entails.of_eq (cell_view (F := F) (tV d L) cc1_scratch2 _).symm) $$ HW0
  iapply (wp_slab_post (defs := defs₀) 𝒱₀ d L none Set.univ bV i0V w0V (Finset.subset_univ _) _ iota_toNat rows2 256 (by omega) rows2_at
    (slabI (blk g L) 0) (slabW (blk g L) 0)) $$ [Hb HI0 HW0]
  · isplitl [Hb]; · iexact Hb
    isplitl [HI0] <;> iassumption
  iintro ⟨Hb, HI0, HW0⟩
  rw [hrb]
  ihave HI0 := (Entails.of_eq (cell_view (F := F) (tV d L) cc1_scratch1 _)) $$ HI0
  ihave HW0 := (Entails.of_eq (cell_view (F := F) (tV d L) cc1_scratch2 _)) $$ HW0
  sl_exec
  ihave HI1 := (Entails.of_eq (cell_view (F := F) (tV d L) cc1_scratch3 _).symm) $$ HI1
  ihave HW1 := (Entails.of_eq (cell_view (F := F) (tV d L) cc1_scratch4 _).symm) $$ HW1
  iapply (wp_slab_post (defs := defs₀) 𝒱₀ d L none Set.univ bV i1V w1V (Finset.subset_univ _) _ iota_toNat rows3 384 (by omega) rows3_at
    (slabI (blk g L) 128) (slabW (blk g L) 128)) $$ [Hb HI1 HW1]
  · isplitl [Hb]; · iexact Hb
    isplitl [HI1] <;> iassumption
  iintro ⟨Hb, HI1, HW1⟩
  rw [hrb]
  ihave HI1 := (Entails.of_eq (cell_view (F := F) (tV d L) cc1_scratch3 _)) $$ HI1
  ihave HW1 := (Entails.of_eq (cell_view (F := F) (tV d L) cc1_scratch4 _)) $$ HW1
  sl_exec
  ihave Hi0 := (sentI d L g 0 0#32 rfl _ (tile_body.sl.dma0_1 d L g) (View.read_whole (Val := Elt F) cc1_scratch1 (slabI (blk g L) 0))) $$ Hi0
  ihave Hw0 := (sentW d L g 0 0#32 rfl _ (tile_body.sl.dma1 d L g) (View.read_whole (Val := Elt F) cc1_scratch2 (slabW (blk g L) 0))) $$ Hw0
  ihave Hi1 := (sentI d L g 1 128#32 rfl _ (tile_body.sl.dma0_2 d L g) (View.read_whole (Val := Elt F) cc1_scratch3 (slabI (blk g L) 128))) $$ Hi1
  ihave Hw1 := (sentW d L g 1 128#32 rfl _ (tile_body.sl.dma1_1 d L g) (View.read_whole (Val := Elt F) cc1_scratch4 (slabW (blk g L) 128))) $$ Hw1
  ihave Hi2 := (sentI d L g 2 256#32 rfl _ (tile_body.sl.dma0_3 d L g) (View.read_whole (Val := Elt F) cc1_scratch1 (slabI (blk g L) 256))) $$ Hi2
  ihave Hw2 := (sentW d L g 2 256#32 rfl _ (tile_body.sl.dma1_2 d L g) (View.read_whole (Val := Elt F) cc1_scratch2 (slabW (blk g L) 256))) $$ Hw2
  ihave Hi3 := (sentI d L g 3 384#32 rfl _ (tile_body.sl.dma0_4 d L g) (View.read_whole (Val := Elt F) cc1_scratch3 (slabI (blk g L) 384))) $$ Hi3
  ihave Hw3 := (sentW d L g 3 384#32 rfl _ (tile_body.sl.dma1_3 d L g) (View.read_whole (Val := Elt F) cc1_scratch4 (slabW (blk g L) 384))) $$ Hw3
  iapply le_wp_ret
  isplitl [Hl Hi0 Hi1 Hi2 Hi3 Hw0 Hw1 Hw2 Hw3]
  · isplitl [Hl]; · iexact Hl
    isplitl [Hi0 Hi1 Hi2 Hi3]
    · isplitl [Hi0]; · iexact Hi0
      isplitl [Hi1]; · iexact Hi1
      isplitl [Hi2]; · iexact Hi2
      iexact Hi3
    isplitl [Hw0]; · iexact Hw0
    isplitl [Hw1]; · iexact Hw1
    isplitl [Hw2]; · iexact Hw2
    iexact Hw3
  isplitl [Hb HI0 HW0 HI1 HW1 Hbufs]
  · isplitl [Hb]; · iexists _; iexact Hb
    isplitl [HI0]; · iexists _; iexact HI0
    isplitl [HW0]; · iexists _; iexact HW0
    isplitl [HI1]; · iexists _; iexact HI1
    isplitl [HW1]; · iexists _; iexact HW1
    iexact Hbufs
  isplitl [HsA HsB HsC Hsems]
  · isplitl [HsA]; · iexact HsA
    isplitl [HsB]; · iexact HsB
    isplitl [HsC]; · iexact HsC
    iexact Hsems
  iexists _
  isplitr
  rotate_left
  · iexact HO
  · ipureintro
    intro p hp
    simp only [Finset.mem_insert] at hp
    rcases hp with rfl | rfl | rfl | rfl | rfl | rfl | rfl | rfl | rfl | h
    all_goals first | exact Or.inr rfl | exact Or.inl h

end Cert.Proof.Topk

end
-- ==== Proof.Region.lean ====
/-
  The TensorCore's call: a pipeline of 32 points, each of which multiplies the whole of W with one block of 512 rows of x
  and writes one block of 512 columns of the logits. Its body is run once; the pipeline library does the rest.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

@[expose] public section

noncomputable section

namespace Cert.Proof.Topk

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type}

local notation "𝕄" => MT nD τ sig (HIx 1) (Elt F) ℕ UU ℕ

/-! ## The logits as a function of x and W -/

/-- Rows `512 t` to `512 t + 511` of `x`. -/
def xRows (X : S16384x4096.Idx → F .f32) (t : Nat) : S512x4096.Idx → F .f32 := fun z =>
  X fun a => ⟨(![512 * t + (z 0).val, (z 1).val] : Fin 2 → Nat) a % S16384x4096.size a, Nat.mod_lt _ (by fin_cases a <;> decide)⟩

/-- The place of a logit within its block. -/
def inBlock (y : S64x16384.Idx) : S64x512.Idx := fun a => ⟨(![(y 0).val, (y 1).val % 512] : Fin 2 → Nat) a % S64x512.size a, Nat.mod_lt _ (by fin_cases a <;> decide)⟩

/-- The logits: column `c` comes from the product of W with the block of rows that holds row `c`. -/
def logits [FloatOps F] (X : S16384x4096.Idx → F .f32) (Wt : S64x4096.Idx → F .f32) : S64x16384.Idx → F .f32 := fun y =>
  k0_pay1 Wt (xRows X ((y 1).val / 512)) (inBlock y)

variable [FloatOps F] [∀ e, Nonempty (Elt F e)]

theorem hz2 : (![0, 0] : Fin 2 → Nat) = fun _ => 0 := funext fun a => by fin_cases a <;> rfl

/-! ## The body -/

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem mm_body (c : Dev nD) (i : grid0.Coords) (M1 : Memref sig .tc .vmem S512x4096 .f32) (h1 : M1.IsWhole) (M2 : Memref sig .tc .vmem S64x4096 .f32) (h2 : M2.IsWhole)
    (M3 : Memref sig .tc .vmem S64x512 .f32) (h3 : M3.IsWhole) (f1 : Buf (Elt F) (M1.view.loc (c : Thread nD τ))) (f2 : Buf (Elt F) (M2.view.loc (c : Thread nD τ)))
    (f3 : Buf (Elt F) (M3.view.loc (c : Thread nD τ))) (E : Set ℕ) (Q : PUnit → sProp 𝕄) :
    iprop(pt c M1 f1 ∗ pt c M2 f2 ∗ pt c M3 f3 ∗ (iprop(pt c M1 f1 ∗ pt c M2 f2 ∗ ∃ f, ⌜M3.view.read (Elt F) f = k0_pay1 (M2.view.read (Elt F) f2) (M1.view.read (Elt F) f1)⌝ ∗ pt c M3 f) -∗ Q ⟨⟩))
      ⊢ wp frame (wpE (defs₀ (F := F)) 𝒱₀ (c : Thread nD τ) none) E (cc0__mm_kernel i M1 h1 M2 h2 M3 h3) Q := by
  simp only [cc0__mm_kernel_eq_skeleton]; unfold cc0__mm_kernel_skel
  iintro ⟨H1, H2, H3, Hk⟩
  sl_exec!
  sl_step
  iapply Hk
  isplitl [H1]; · iexact H1
  isplitl [H2]; · iexact H2
  iexists _; isplitr
  swap; · iexact H3
  ipureintro
  rw [View.read_writes_junk_eq_canon]
  show View.canon ([⟨Rect.unit ![0, 0] S64x512.size inb_S64x512_S64x512_0_0,
      k0_pay1 (View.readAt (Elt F) M2.view (Rect.unit (s := S64x4096) ![0, 0] S64x4096.size inb_S64x4096_S64x4096_0_0).toLoadRect f2)
        (View.readAt (Elt F) M1.view (Rect.unit (s := S512x4096) ![0, 0] S512x4096.size inb_S512x4096_S512x4096_0_0).toLoadRect f1)⟩] :
      List (View.Piece (Elt F) S64x512 .f32)) = _
  rw [View.canon_unit_zero hz2, View.readAt_eq_ld, View.readAt_eq_ld, View.ld_unit_zero hz2, View.ld_unit_zero hz2]

/-! ## The proof data -/

variable (V : (c : Dev nD) → (b : Ref sig .tc) → Buf (Elt F) ((c : Thread nD τ).loc b))

/-- What the fetches bring in at a point. -/
abbrev xBlk (c : Dev nD) (t : Fin cfg0.N) : (cfg0.win 0).block.Idx → Elt F (cfg0.win 0).elt := ((cfg0.win 0).blk t).view.read (Elt F) (V c main_v0)
abbrev wBlk (c : Dev nD) (t : Fin cfg0.N) : (cfg0.win 1).block.Idx → Elt F (cfg0.win 1).elt := ((cfg0.win 1).blk t).view.read (Elt F) (V c main_arg1)

/-- The pipeline's data: it owes throughout what the SparseCore's handshakes have it owe, and its earlier waits stay below `b`. -/
def dat (b : ℕ) (c : Dev nD) : Dat τ (Elt F) (HIx 1) ℕ UU ℕ cfg0 c where
  A w := V c (Pipeline.arrRef spec0 w)
  after w t := match w with
    | ⟨0, _⟩ => xBlk V c t
    | ⟨1, _⟩ => wBlk V c t
    | ⟨2, _⟩ => k0_pay1 (F := F) (wBlk V c t) (xBlk V c t)
  Φ _ := BI.emp
  q _ := fullShare
  owed _ := (K (F := F)).Otc c 0
  recorded _ := {p | (K (F := F)).lev (SparseCore.T c, p.1) p.2 ≤ b}

theorem before0 (b : ℕ) (c : Dev nD) (t : Fin cfg0.N) (d) : (dat V b c).before 0 t d = xBlk V c t :=
  (dat V b c).before_in_eq_fetched 0 rfl (fun _ => rfl) (fun _ _ _ => rfl) (fun t => by dsimp only [dat]; rfl) t d
theorem before1 (b : ℕ) (c : Dev nD) (t : Fin cfg0.N) (d) : (dat V b c).before 1 t d = wBlk V c t :=
  (dat V b c).before_in_eq_fetched 1 rfl (fun _ => rfl) (fun _ _ _ => rfl) (fun t => by dsimp only [dat]; rfl) t d

theorem body_obligation (b : ℕ) (c : Dev nD) : BodyObligation (dat V b c) (defs₀ (F := F)) 𝒱₀ (none : HIx 1) Set.univ := fun t => by
  have hs0 : ((cfg0.win 0).stage (cfg0.slots t 0)).view.set = Finset.univ := (hstage0_0 ((cfg0.slots t 0).cast nbuf0_0)).set_eq_univ
  have hs1 : ((cfg0.win 1).stage (cfg0.slots t 1)).view.set = Finset.univ := (hstage0_1 ((cfg0.slots t 1).cast nbuf0_1)).set_eq_univ
  have hs2 : ((cfg0.win 2).stage (cfg0.slots t 2)).view.set = Finset.univ := (hstage0_2 ((cfg0.slots t 2).cast nbuf0_2)).set_eq_univ
  rw [bigSep_W0, bigSep_W0]
  rw [show (dat V b c).Φ t.castSucc = (BI.emp : sProp 𝕄) from rfl, show (dat V b c).Φ t.succ = (BI.emp : sProp 𝕄) from rfl,
    show (dat V b c).owesAt none t.succ = (dat V b c).owesAt none t.castSucc from rfl]
  have hb := fun f0 f1 f2 Q => mm_body (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) f0 f1 f2 Set.univ Q
  simp only [owns, hs0, hs1, hs2]
  iintro ⟨-, Howes, ⟨%d0, %f0, %hf0, H0⟩, ⟨%d1, %f1, %hf1, H1⟩, ⟨%d2, %f2, -, H2⟩⟩
  rw [before0] at hf0
  rw [before1] at hf1
  iapply (hb f0 f1 f2 _)
  isplitl [H0]; · iexact H0
  isplitl [H1]; · iexact H1
  isplitl [H2]; · iexact H2
  iintro ⟨H0, H1, %g, %hg, H2⟩
  isplitr; · iempintro
  isplitl [Howes]; · iexact Howes
  isplitl [H0]; · iexists f0; isplitr; swap; (· iexact H0); ipureintro; exact hf0
  isplitl [H1]; · iexists f1; isplitr; swap; (· iexact H1); ipureintro; exact hf1
  iexists g; isplitr; swap; (· iexact H2); ipureintro
  exact hg.trans (congrArg₂ k0_pay1 hf1 hf0)

/-! ## Where a block sits, and the final logits -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)

theorem emb0_val (t : Fin cfg0.N) (z : S512x4096.Idx) (a : Fin 2) :
    ((((cfg0.win 0).blk t).view.emb z a : Fin _) : Nat) = (![512 * t.val + (z 0).val, (z 1).val] : Fin 2 → Nat) a := by
  obtain ⟨h0, h1⟩ := index0 t
  match a with
  | ⟨0, _⟩ => show win0_0.index t (0 : Fin 2) * 512 + 1 * (z 0).val = 512 * t.val + (z 0).val; omega
  | ⟨1, _⟩ => show win0_0.index t (1 : Fin 2) * 4096 + 1 * (z 1).val = (z 1).val; omega

theorem emb1_eq (t : Fin cfg0.N) (z : S64x4096.Idx) : ((cfg0.win 1).blk t).view.emb z = z := by
  obtain ⟨h0, h1⟩ := index1 t
  funext a; apply Fin.ext
  match a with
  | ⟨0, _⟩ => show win0_1.index t (0 : Fin 2) * 64 + 1 * (z 0).val = (z 0).val; omega
  | ⟨1, _⟩ => show win0_1.index t (1 : Fin 2) * 4096 + 1 * (z 1).val = (z 1).val; omega

theorem emb2_val (t : Fin cfg0.N) (z : S64x512.Idx) (a : Fin 2) :
    ((((cfg0.win 2).blk t).view.emb z a : Fin _) : Nat) = (![(z 0).val, 512 * t.val + (z 1).val] : Fin 2 → Nat) a := by
  obtain ⟨h0, h1⟩ := index2 t
  match a with
  | ⟨0, _⟩ => show win0_2.index t (0 : Fin 2) * 64 + 1 * (z 0).val = (z 0).val; omega
  | ⟨1, _⟩ => show win0_2.index t (1 : Fin 2) * 512 + 1 * (z 1).val = 512 * t.val + (z 1).val; omega

theorem xBlk_eq (c : Dev nD) (t : Fin cfg0.N) : xBlk V c t = xRows (F := F) (V c main_v0) t.val := by
  funext z
  show V c main_v0 (((cfg0.win 0).blk t).view.emb z) = V c main_v0 _
  refine congrArg (V c main_v0) (funext fun a => Fin.ext ?_)
  have h := emb0_val t z a
  exact h.trans (Nat.mod_eq_of_lt (h ▸ (((cfg0.win 0).blk t).view.emb z a).isLt)).symm

theorem wBlk_eq (c : Dev nD) (t : Fin cfg0.N) : wBlk V c t = V c main_arg1 := by
  funext z
  show V c main_arg1 (((cfg0.win 1).blk t).view.emb z) = V c main_arg1 z
  rw [emb1_eq]

/-- The logits the region leaves. -/
abbrev lgt (c : Dev nD) : S64x16384.Idx → F .f32 := logits (V c main_v0) (V c main_arg1)

theorem flushed2 (b : ℕ) (c : Dev nD) (t : Fin cfg0.N) :
    (dat V b c).flushed 2 t = ((cfg0.win 2).blk t).view.read (Elt F) (lgt V c) := by
  funext z
  have e0 : (((cfg0.win 2).blk t).view.emb z 0 : Nat) = (z 0).val := emb2_val t z 0
  have e1 : (((cfg0.win 2).blk t).view.emb z 1 : Nat) = 512 * t.val + (z 1).val := emb2_val t z 1
  have hz : (z 1).val < 512 := (z 1).isLt
  have hz0 : (z 0).val < 64 := (z 0).isLt
  show k0_pay1 (wBlk V c t) (xBlk V c t) z = lgt V c (((cfg0.win 2).blk t).view.emb z)
  rw [xBlk_eq, wBlk_eq]
  have ht : (((cfg0.win 2).blk t).view.emb z 1 : Nat) / 512 = t.val := by rw [e1]; omega
  have hi : inBlock (((cfg0.win 2).blk t).view.emb z) = z := by
    funext a; apply Fin.ext
    match a with
    | ⟨0, _⟩ => show (((cfg0.win 2).blk t).view.emb z 0 : Nat) % 64 = (z 0).val; rw [e0]; omega
    | ⟨1, _⟩ => show ((((cfg0.win 2).blk t).view.emb z 1 : Nat) % 512) % 512 = (z 1).val; rw [e1]; omega
  show _ = k0_pay1 (V c main_arg1) (xRows (V c main_v0) ((((cfg0.win 2).blk t).view.emb z 1 : Nat) / 512)) (inBlock (((cfg0.win 2).blk t).view.emb z))
  rw [ht, hi]

theorem covered2 (i : S64x16384.Idx) : ∃ t : Fin cfg0.N, (cfg0.win 2).flush t = true ∧ i ∈ ((cfg0.win 2).blk t).view.set := by
  have hi : (i 1).val < 16384 := (i 1).isLt
  have hN : (i 1).val / 512 < cfg0.N := by have h : cfg0.N = 32 := N_0; omega
  obtain ⟨t, ht⟩ : ∃ t : Fin cfg0.N, t.val = (i 1).val / 512 := ⟨⟨_, hN⟩, rfl⟩
  refine ⟨t, flush0_2 t, ?_⟩
  have h := ((cfg0.win 2).blk t).view.emb_mem_set (inBlock i)
  have e : ((cfg0.win 2).blk t).view.emb (inBlock i) = i := by
    funext a; apply Fin.ext
    have h64 : (i 0).val < 64 := (i 0).isLt
    refine (emb2_val _ (inBlock i) a).trans ?_
    match a with
    | ⟨0, _⟩ => show (i 0).val % 64 = (i 0).val; omega
    | ⟨1, _⟩ => show 512 * t.val + (i 1).val % 512 % 512 = (i 1).val; omega
  exact e ▸ h

theorem final2 (b : ℕ) (c : Dev nD) : (dat V b c).arrAt 2 cfg0.N = lgt V c :=
  (dat V b c).arrAt_eq_of_cover 2 (lgt V c) (fun t _ => flushed2 V b c t) covered2

/-! ## The region -/

abbrev adm : (p : Fin 1) → (pcfgs (F := F) p).Adm := fun p => (cfgs p).toPCfg_adm

def pdats (b : ℕ) : (p : Fin 1) → (c : Dev nD) → Dat τ (Elt F) (HIx 1) ℕ UU ℕ (Pipeline.pin (pcfgs (F := F)) adm p) c
  | ⟨0, _⟩ => fun c => dat V b c

theorem Otc_none (c : Dev nD) (g : GSem nD τ sig) : (K (F := F)).Otc c 0 g none = 0 := by
  by_contra h
  have := SparseCore.Cfg.lev_of_Otc_pos (K := K (F := F)) (Nat.pos_of_ne_zero h); rw [SparseCore.Cfg.lev_none] at this; omega

variable (Vp : (c : Dev nD) → (b : Ref sig .tc) → Buf (Elt F) ((c : Thread nD τ).loc b))

/-- What the core owes around the region: the handshakes' debts, its waits so far at or below `b`. -/
abbrev owesB (b : ℕ) (c : Dev nD) : sProp 𝕄 :=
  iprop(∃ W, ⌜(K (F := F)).WBelow (SparseCore.T c) W b⌝ ∗ owes (c : Thread nD τ) ((K (F := F)).Otc c 0) W)

set_option backward.isDefEq.respectTransparency.types false in
/-- The region, entered from the buffers at `V` and left with them at `Vp`, which differs from `V` in the logits alone. -/
def reg (b : ℕ) (hout : ∀ c, Vp c main_v1 = lgt V c) (hne : ∀ c (r : Ref sig .tc), r ≠ main_v1 → Vp c r = V c r) :
    Pipeline.RegionSeg (pcfgs (F := F)) adm (pdats V b) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V b c).loose
  hwaits c := Pipeline.cellsWaits_intro _ _ _ _ _ fun w s t => (K (F := F)).mayWait_none _ (Otc_none c)
  pre c := iprop(unscopedBufs c (V c) ∗ owesB b c)
  post c := iprop(unscopedBufs c (Vp c) ∗ owesB b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V b) (launch0).win (launch0).arr_whole c
      ((pdats V b 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V b 0 c).Φ 0 = (BI.emp : sProp 𝕄) from rfl]
    iintro ⟨-, -, Hr⟩
    ihave H := (Entails.of_eq (scopedRest0_eq c)) $$ Hr
    iexact H
  hout c := by
    rw [Pipeline.ownSems0_none, show (pdats V b 0 c).Φ (Fin.last _) = (BI.emp : sProp 𝕄) from rfl]
    iintro Hr
    isplitr; · iempintro
    isplitr; · iempintro
    iapply (Entails.of_eq (scopedRest0_eq c).symm); iexact Hr
  hexit c := by
    have hjoin := Pipeline.unscopedBufs_of_arrays (p := 0) (pcfgs (F := F)) adm (Ix := HIx 1) (Name := ℕ) (U := UU) (Lvl := ℕ) (launch0).win (launch0).arr_whole c
      (pdats V b) ((pdats V b 0 c).share_full fun _ => rfl) (V c) (Vp c) ((pdats V b 0 c).arrAt · cfg0.N)
      (fun w => by
        fin_cases w
        · exact ((pdats V b 0 c).arrAt_in 0 rfl _).trans (hne c main_v0 (by decide)).symm
        · exact ((pdats V b 0 c).arrAt_in 1 rfl _).trans (hne c main_arg1 (by decide)).symm
        · exact (final2 V b c).trans (hout c).symm)
      (fun r hr => hne c r fun h => hr (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

end Cert.Proof.Topk

end
-- ==== Proof.Launch.lean ====
/-
  The whole program's run: the host's reshape, the TensorCore's call, the SparseCores' call, and what the buffers hold at the
  end. Written once for any family of element values.
-/
module

public import proofs.«01_k».proof.Proof.Split
public import proofs.«01_k».proof.Proof.Body
public import proofs.«01_k».proof.Proof.Region
public import Idealize.ShloMosaic.Lib.SparseCore.Quiescent

@[expose] public section

noncomputable section

namespace Cert.Proof.Topk

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (cellsGhost toksInit)

variable {F : FTy → Type}

local notation "𝕄" => MT nD τ sig (HIx 1) (Elt F) ℕ UU ℕ

/-- Where the pipeline's rounds live. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

variable [FloatOps F] [∀ e, Nonempty (Elt F e)]
variable (m : (ℓ : Loc nD τ sig) → Buf (Elt F) ℓ) (ρ : Dev nD → PrngReg)

/-! ## What the buffers hold -/

abbrev xLoc (d : Dev nD) : Loc nD τ sig := (SparseCore.T d).loc main_arg0
abbrev mLoc (d : Dev nD) : Loc nD τ sig := (SparseCore.T d).loc main_arg1

abbrev rsh : HloOp τ sig (Elt F) := StableHlo.reshape main_arg0 main_v0 (rfl : (.f32 : EltTy) = .f32) shapeCasts_S4x4096x4096_S16384x4096

/-- Before and after the reshape. -/
def W0 (d : Dev nD) : Valuation τ sig (Elt F) := fun b => m (d, b)
def W1 (d : Dev nD) : Valuation τ sig (Elt F) := (rsh (F := F)).result (W0 m d)
def V1 (d : Dev nD) (b : Ref sig .tc) : Buf (Elt F) ((d : Thread nD τ).loc b) := W1 m d (Proc.devRef .tc b)

/-- The logits the TensorCore works out. -/
def lg (d : Dev nD) : Buf (Elt F) (lLoc d) :=
  logits (shapeCast S16384x4096 (m (xLoc d) : S4x4096x4096.Idx → F .f32) shapeCasts_S4x4096x4096_S16384x4096) (m (mLoc d) : S64x4096.Idx → F .f32)

/-- After the TensorCore's call. -/
def V2 (d : Dev nD) : (b : Ref sig .tc) → Buf (Elt F) ((d : Thread nD τ).loc b) := Function.update (V1 m d) main_v1 (lg m d)

theorem V1_v0 (d : Dev nD) : V1 m d main_v0 = shapeCast S16384x4096 (m (xLoc d) : S4x4096x4096.Idx → F .f32) shapeCasts_S4x4096x4096_S16384x4096 := by
  have h := StableHlo.reshape_result main_arg0 main_v0 (rfl : (.f32 : EltTy) = .f32) shapeCasts_S4x4096x4096_S16384x4096 ⟨by decide, rfl⟩ ⟨by decide, rfl⟩ (W0 m d)
  unfold V1 W1
  refine h.trans ?_
  funext i
  rfl

theorem V1_ne (d : Dev nD) (b : Ref sig .tc) (h : Proc.devRef (τ := τ) .tc b ∉ (rsh (F := F)).writes) : V1 m d b = m ((d : Thread nD τ).loc b) :=
  HloOp.result_of_not_mem (rsh (F := F)) (W0 m d) h

theorem devRef_notMem (b : Ref sig .tc) (h : b ≠ main_v0) : Proc.devRef (τ := τ) .tc b ∉ (rsh (F := F)).writes := fun hm =>
  h (Proc.devRef_injective (sig := sig) (.tc : Proc τ) (Finset.mem_singleton.mp hm))

theorem V2_v1 (d : Dev nD) : V2 m d main_v1 = lg m d := Function.update_self ..
theorem V2_ne (d : Dev nD) (b : Ref sig .tc) (h : b ≠ main_v1) : V2 m d b = V1 m d b := Function.update_of_ne h ..

theorem lgt_V1 (d : Dev nD) : lgt (V1 m) d = lg m d := by
  unfold lgt lg
  rw [V1_v0, V1_ne m d main_arg1 (devRef_notMem _ (by decide))]

def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = held (d.tc : Thread nD τ) ucRefs W := by
  unfold unscopedBufs held ucRefs StableHlo.tcRefs
  rw [Finset.filter_map, bigSep_map]; rfl

theorem rsh_bufs : (rsh (F := F)).bufs ⊆ ucRefs := by
  show ({Proc.devRef .tc main_arg0, Proc.devRef .tc main_v0} : Finset (DevRef τ sig)) ⊆ ucRefs
  intro b hb
  unfold ucRefs
  rw [Finset.mem_filter]
  rcases Finset.mem_insert.mp hb with rfl | hb
  · exact ⟨StableHlo.devRef_mem_tcRefs _, by decide⟩
  · rw [Finset.mem_singleton.mp hb]; exact ⟨StableHlo.devRef_mem_tcRefs _, by decide⟩

theorem unscopedBufs_eq (d : Dev nD) (W : (b : Ref sig .tc) → Buf (Elt F) ((d.tc : Thread nD τ).loc b)) :
    (unscopedBufs d W : sProp 𝕄) = iprop((xLoc d ↦{fullShare} W main_arg0) ∗ (mLoc d ↦{fullShare} W main_arg1)
      ∗ ((SparseCore.T d).loc main_v0 ↦{fullShare} W main_v0) ∗ (lLoc d ↦{fullShare} W main_v1) ∗ (iLoc d ↦{fullShare} W main_v2_0) ∗ wLoc d ↦{fullShare} W main_v2_1) := by
  unfold unscopedBufs
  rw [show (Finset.univ.filter fun b : Ref sig .tc => ¬ b.isScoped) = {main_arg0, main_arg1, main_v0, main_v1, main_v2_0, main_v2_1} by decide,
    SparseCore.bigSep_insert' (by decide), SparseCore.bigSep_insert' (by decide), SparseCore.bigSep_insert' (by decide), SparseCore.bigSep_insert' (by decide),
    SparseCore.bigSep_insert' (by decide), bigSep_singleton]

/-! ## What the SparseCores' call carries -/

/-- What tile `i` of SparseCore `c` is handed, and what it hands back. -/
abbrev goT (d : Dev nD) (c : Fin 2) (i : Fin 16) : sProp 𝕄 := iprop(lPts d (tl (c, i)) (lg m d) ∗ iAll d (tl (c, i)) (m (iLoc d)) ∗ wAll d (tl (c, i)) (m (wLoc d)))
abbrev tdT (d : Dev nD) (c : Fin 2) (i : Fin 16) : sProp 𝕄 := iprop(lPts d (tl (c, i)) (lg m d) ∗ iAll d (tl (c, i)) (resI (lg m d)) ∗ wAll d (tl (c, i)) (resW (lg m d)))

def P : (K (F := F)).Pay (nD := nD) (Val := Elt F) (Name := ℕ) (U := UU) where
  st q d c := match q with | 0 => bigSep Finset.univ fun i : Fin 16 => goT m d (Fin.cast rfl c) i
  dn q d c := match q with | 0 => bigSep Finset.univ fun i : Fin 16 => tdT m d (Fin.cast rfl c) i
  go q d c i := match q with | 0 => goT m d (Fin.cast rfl c) (Fin.cast rfl i)
  td q d c i := match q with | 0 => tdT m d (Fin.cast rfl c) (Fin.cast rfl i)
  x := fun _ _ => iprop(emp)

instance P_storable : (P m).IsStorable where
  st q d c := match q with | 0 => (inferInstance : BI.Storable (upEmb : UEmb _ 𝕄) (bigSep Finset.univ fun i : Fin 16 => goT m d (Fin.cast rfl c) i))
  dn q d c := match q with | 0 => (inferInstance : BI.Storable (upEmb : UEmb _ 𝕄) (bigSep Finset.univ fun i : Fin 16 => tdT m d (Fin.cast rfl c) i))
  go q d c i := match q with | 0 => (inferInstance : BI.Storable (upEmb : UEmb _ 𝕄) (goT m d (Fin.cast rfl c) (Fin.cast rfl i)))
  td q d c i := match q with | 0 => (inferInstance : BI.Storable (upEmb : UEmb _ 𝕄) (tdT m d (Fin.cast rfl c) (Fin.cast rfl i)))

local notation "lV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S4x4096x8 EltTy.i32)
local notation "wV" => (Memref.whole Cert.KernelIdeal.main_v2_1_scv : Memref Cert.KernelIdeal.sig Kind.scVector Space.hbm Cert.KernelIdeal.S4x4096x8 EltTy.f32)
local notation "bV" => (Memref.whole Cert.KernelIdeal.cc1_scratch0 : Memref Cert.KernelIdeal.sig Kind.scVector Space.vmem Cert.KernelIdeal.S64x512 EltTy.f32)
local notation "i0V" => (Memref.whole Cert.KernelIdeal.cc1_scratch1 : Memref Cert.KernelIdeal.sig Kind.scVector Space.vmem Cert.KernelIdeal.S128x8 EltTy.i32)
local notation "w0V" => (Memref.whole Cert.KernelIdeal.cc1_scratch2 : Memref Cert.KernelIdeal.sig Kind.scVector Space.vmem Cert.KernelIdeal.S128x8 EltTy.f32)
local notation "i1V" => (Memref.whole Cert.KernelIdeal.cc1_scratch3 : Memref Cert.KernelIdeal.sig Kind.scVector Space.vmem Cert.KernelIdeal.S128x8 EltTy.i32)
local notation "w1V" => (Memref.whole Cert.KernelIdeal.cc1_scratch4 : Memref Cert.KernelIdeal.sig Kind.scVector Space.vmem Cert.KernelIdeal.S128x8 EltTy.f32)

theorem defs₀_vector (c : Fin τ.nSC) (s : Fin τ.nSub) :
    defs₀ (F := F) (.scVector c s) 1 ()
      = SparseCore.onTile hcore1 hsub1 (fun c s => cc1_topk_kernel (coordsV c s)
          lV (Memref.isWhole_whole _) iV (Memref.isWhole_whole _) wV (Memref.isWhole_whole _)
          bV (Memref.isWhole_whole _) i0V (Memref.isWhole_whole _) w0V (Memref.isWhole_whole _) i1V (Memref.isWhole_whole _) w1V (Memref.isWhole_whole _)
          cc1_scratch5 cc1_scratch6 cc1_scoped0) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (lg m d) (m (iLoc d)) (m (wLoc d)) O W hO).trans (wp_mono frame _ _ fun _ => obl_post)

theorem vecSplit : (K (F := F)).VecSplit' (P m) 0 := by
  intro d c
  show (bigSep Finset.univ fun i : Fin 16 => goT m d (Fin.cast rfl c) i)
    ⊢ |={Set.univ}=> iprop((bigSep Finset.univ fun i : Fin 16 => goT m d (Fin.cast rfl c) i)
      ∗ ((bigSep Finset.univ fun i : Fin 16 => tdT m d (Fin.cast rfl c) i) -∗ bigSep Finset.univ fun i : Fin 16 => tdT m d (Fin.cast rfl c) i))
  iintro H; imodintro
  isplitl [H]; · iexact H
  iintro H; iexact H

/-! ## The ghost state at the launch -/

theorem hinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) hinj) (Pipeline.launchToks (Pipeline.pin (pcfgs (F := F)) adm) hinj), 1))

/-- What @main is handed for the pipeline. -/
abbrev G (d : Dev nD) : sProp 𝕄 := iprop((bigSep Finset.univ fun p : Fin 1 => cellsGhost (Pipeline.pin (pcfgs (F := F)) adm) EP p d)
  ∗ bigSep Finset.univ fun p : Fin 1 => toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HP := (show (BI.own (((Emb.inl : Emb UP (UP × Counters)).trans embR) (initOf (Pipeline.cells (Pipeline.pin (pcfgs (F := F)) adm) hinj) (Pipeline.launchToks (Pipeline.pin (pcfgs (F := F)) adm) hinj))) : sProp 𝕄)
      ⊢ BI.own (EP (initOf (Pipeline.cells (Pipeline.pin (pcfgs (F := F)) adm) hinj) (Pipeline.launchToks (Pipeline.pin (pcfgs (F := F)) adm) hinj))) from .rfl) $$ HP
  imod (Pipeline.fund_ghost (Pipeline.pin (pcfgs (F := F)) adm) (EP (F := F)) hinj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const (M := 𝕄) (Finset.univ : Finset (Thread nD τ))).symm)
  iempintro

/-! ## @main -/

theorem st0_eq (d : Dev nD) : (bigSep Finset.univ fun c : Fin ((K (F := F)).nCore 0) => (P m).st 0 d c)
    = iprop((lLoc d ↦{fullShare} lg m d) ∗ (iLoc d ↦{fullShare} m (iLoc d)) ∗ (wLoc d ↦{fullShare} m (wLoc d))) :=
  split_all d (lg m d) (m (iLoc d)) (m (wLoc d))
theorem dn0_eq (d : Dev nD) : (bigSep Finset.univ fun c : Fin ((K (F := F)).nCore 0) => (P m).dn 0 d c)
    = iprop((lLoc d ↦{fullShare} lg m d) ∗ (iLoc d ↦{fullShare} resI (lg m d)) ∗ (wLoc d ↦{fullShare} resW (lg m d))) :=
  split_all d (lg m d) (resI (lg m d)) (resW (lg m d))

abbrev FIN (d : Dev nD) : sProp 𝕄 := iprop((xLoc d ↦{fullShare} m (xLoc d)) ∗ (mLoc d ↦{fullShare} m (mLoc d))
  ∗ (iLoc d ↦{fullShare} resI (lg m d)) ∗ (wLoc d ↦{fullShare} resW (lg m d)))

/-- The region's data at this launch. -/
abbrev theReg : Pipeline.RegionSeg (pcfgs (F := F)) adm (pdats (V1 m) 0) (none : HIx 1) defs₀ 𝒱₀ (K (F := F)).L (K (F := F)).lev 0 :=
  reg (V1 m) (V2 m) 0 (fun c => (V2_v1 m c).trans (lgt_V1 m c).symm) (V2_ne m)

/-- The TensorCore's call under the pipelines' table. -/
theorem wp_entry (d : Dev nD) (Q : PUnit → sProp 𝕄) :
    iprop((iprop(boundary (d.tc : Thread nD τ) ∗ (theReg m).post d) -∗ wp frame (wpE (D (F := F)) 𝒱 (d.tc : Thread nD τ) none) Set.univ (.ret ⟨⟩) Q)
        ∗ boundary (d.tc : Thread nD τ) ∗ (theReg m).pre d ∗ levAts (K (F := F)).L (K (F := F)).lev
        ∗ cellsGhost (Pipeline.pin (pcfgs (F := F)) adm) EP 0 d ∗ toksInit (Pipeline.pin (pcfgs (F := F)) adm) EP 0 d)
      ⊢ wp frame (wpE (D (F := F)) 𝒱 (d.tc : Thread nD τ) none) Set.univ (.op (.customCall (Pipeline.entry 0) ()) fun x => .ret x) Q :=
  Pipeline.RegionSeg.wp (pcfgs (F := F)) adm (pdats (V1 m) 0) (none : HIx 1) hinj (EP (F := F)) defs₀ 𝒱₀
    (K (F := F)).L (K (F := F)).lev (theReg m) d none (fun u hu => nomatch hu) (fun x => .ret x) Q

/-- The TensorCore's call, in the program's own signature and in the pipelines'. -/
abbrev callK : Prog (TpuEff nD τ sig (Elt F) (SparseCore.Sig (ΛP (F := F)) 1) .tc) PUnit := Prog.lift (.customCall (SparseCore.inner (Pipeline.entry 0)) ())
abbrev callP : Prog (TpuEff nD τ sig (Elt F) (ΛP (F := F)) .tc) PUnit := .op (.customCall (Pipeline.entry 0) ()) fun x => .ret x

theorem callK_eq : callK (F := F) = SparseCore.liftProg (pr := .tc) (callP (F := F)) := rfl

theorem wp_lifted (d : Dev nD) (Q : PUnit → sProp 𝕄) :
    wp frame (wpE (D (F := F)) 𝒱 (d.tc : Thread nD τ) none) Set.univ (callP (F := F)) Q
      ⊢ wp frame (wpE ((K (F := F)).defs (D (F := F))) 𝒱 (d.tc : Thread nD τ) none) Set.univ (callK (F := F)) Q := by
  rw [callK_eq]
  exact (K (F := F)).wp_liftProg (D (F := F)) 𝒱 (d.tc : Thread nD τ) Set.univ none (callP (F := F)) Q

/-- The TensorCore's call under the program's own table. -/
theorem wp_region₀ (d : Dev nD) (Q : PUnit → sProp 𝕄) :
    iprop((iprop(boundary (d.tc : Thread nD τ) ∗ (theReg m).post d) -∗ Q ⟨⟩)
        ∗ boundary (d.tc : Thread nD τ) ∗ (theReg m).pre d ∗ levAts (K (F := F)).L (K (F := F)).lev ∗ G d)
      ⊢ wp frame (wpE ((K (F := F)).defs (D (F := F))) 𝒱 (d.tc : Thread nD τ) none) Set.univ (callK (F := F)) Q := by
  unfold G
  rw [bigSep_univ_of_subsingleton (0 : Fin 1), bigSep_univ_of_subsingleton (0 : Fin 1)]
  iintro ⟨Hk, Hb, Hpre, Hl, Hg, Ht⟩
  iapply (wp_lifted d Q)
  iapply (wp_entry m d Q)
  isplitl [Hk]
  · iintro H
    rw [wp_ret]; imodintro
    iapply Hk; iexact H
  isplitl [Hb]; · iexact Hb
  isplitl [Hpre]; · iexact Hpre
  isplitl [Hl]; · iexact Hl
  isplitl [Hg] <;> iassumption

/-- The same, with what it takes and gives spelled out. -/
theorem wp_region (d : Dev nD) (Q : PUnit → sProp 𝕄) :
    iprop((iprop(boundary (d.tc : Thread nD τ) ∗ unscopedBufs d (V2 m d) ∗ owesB 0 d) -∗ Q ⟨⟩)
        ∗ boundary (d.tc : Thread nD τ) ∗ (unscopedBufs d (V1 m d) ∗ owesB 0 d) ∗ levAts (K (F := F)).L (K (F := F)).lev ∗ G d)
      ⊢ wp frame (wpE ((K (F := F)).defs (D (F := F))) 𝒱 (d.tc : Thread nD τ) none) Set.univ (callK (F := F)) Q := wp_region₀ m d Q

abbrev callR : Prog (TpuEff nD τ sig (Elt F) (SparseCore.Sig (ΛP (F := F)) 1) .tc) PUnit := hlo rfl (rsh (F := F)) (fun _ => .ret ⟨⟩)

/-- The host's reshape. -/
theorem wp_rsh (d : Dev nD) (Q : PUnit → sProp 𝕄) :
    iprop((iprop(boundary (d.tc : Thread nD τ) ∗ unscopedBufs d (V1 m d)) -∗ Q ⟨⟩)
        ∗ boundary (d.tc : Thread nD τ) ∗ unscopedBufs d (fun b => m ((d : Thread nD τ).loc b)))
      ⊢ wp frame (wpE ((K (F := F)).defs (D (F := F))) 𝒱 (d.tc : Thread nD τ) none) Set.univ
          (callR (F := F)) Q := by
  have h0 : (unscopedBufs d (fun b => m ((d : Thread nD τ).loc b)) : sProp 𝕄) = held (d.tc : Thread nD τ) ucRefs (W0 m d) := unscopedBufs_held d (W0 m d)
  have h1 : (unscopedBufs d (V1 m d) : sProp 𝕄) = held (d.tc : Thread nD τ) ucRefs (W1 m d) := unscopedBufs_held d (W1 m d)
  rw [h0, h1]
  iintro ⟨Hk, Hb, Hu⟩
  iapply (wp_hlo_within 𝒱 (d.tc : Thread nD τ) none Set.univ (op := rsh (F := F)) rsh_bufs) $$ [Hb Hu]
  · isplitl [Hb] <;> iassumption
  iintro H
  rw [wp_ret]; imodintro
  iapply Hk; iexact H

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  iapply (wp_rsh m d _)
  isplitr [Hb Hub]
  · iintro ⟨Hb, Hub⟩
    iapply (wp_region m d _)
    ihave Hl := (SparseCore.Cfg.ctx_levAts κ) $$ Hctx
    ihave Hst := (show (K (F := F)).tcSt EH d 0 ⊢ iprop(owesB 0 d ∗ (owesB 0 d -∗ (K (F := F)).tcSt EH d 0)) from by
      unfold SparseCore.Cfg.tcSt
      iintro ⟨HO, Hr⟩
      isplitl [HO]; · iexact HO
      iintro HO
      isplitl [HO]; · iexact HO
      iexact Hr) $$ Hst
    icases Hst with ⟨HO, Hst⟩
    isplitl [Hst Hts]
    · iintro ⟨Hb, Hub, HO⟩
      ihave Hst := Hst $$ HO
      ihave Hub := (Entails.of_eq (unscopedBufs_eq d (V2 m d))) $$ Hub
      icases Hub with ⟨Hx, Hm, -, Hl, Hi, Hw⟩
      iapply ((K (F := F)).wp_run (D (F := F)) 𝒱 (EH := EH) (P := P m) κ d 0) $$ [Hst Hx Hm Hl Hi Hw Hb Hts]
      isplitr; · iexact Hctx
      isplitl [Hst]; · iexact Hst
      isplitl [Hl Hi Hw]
      · rw [st0_eq]
        rw [V2_v1 m d, V2_ne m d main_v2_0 (by decide), V2_ne m d main_v2_1 (by decide), V1_ne m d main_v2_0 (devRef_notMem _ (by decide)), V1_ne m d main_v2_1 (devRef_notMem _ (by decide))]
        isplitl [Hl]; · iexact Hl
        isplitl [Hi]; · iexact Hi
        iexact Hw
      iintro ⟨Hst, Hdn⟩
      ihave Hdn' := (Entails.of_eq (dn0_eq m d)) $$ Hdn
      icases Hdn' with ⟨-, Hi, Hw⟩
      imodintro
      isplitl [Hst]; · iexact Hst
      isplitr [Hb Hts]
      · rw [V2_ne m d main_arg0 (by decide), V2_ne m d main_arg1 (by decide), V1_ne m d main_arg0 (devRef_notMem _ (by decide)), V1_ne m d main_arg1 (devRef_notMem _ (by decide))]
        isplitl [Hx]; · iexact Hx
        isplitl [Hm]; · iexact Hm
        isplitl [Hi]; · iexact Hi
        iexact Hw
      isplitl [Hb] <;> iassumption
    isplitl [Hb]; · iexact Hb
    isplitl [Hub HO]
    · isplitl [Hub]; · iexact Hub
      iexact HO
    isplitl [Hl]; · iexact Hl
    iexact HG
  isplitl [Hb]; · iexact Hb
  iexact Hub

/-! ## What the final memory is -/

def fq (d : Dev nD) (s' : Phys nD τ sig (Elt F)) : Prop :=
  s'.mem.mem (xLoc d) = m (xLoc d) ∧ s'.mem.mem (mLoc d) = m (mLoc d) ∧ s'.mem.mem (iLoc d) = resI (lg m d) ∧ s'.mem.mem (wLoc d) = resW (lg m d)

/-- A whole buffer held is what the memory has. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, Hm, Hi, Hw⟩, HSI⟩
  ihave H := (agree s' (xLoc d) (m (xLoc d))) $$ [HSI Hx]
  · isplitl [HSI] <;> iassumption
  icases H with ⟨%h1, HSI⟩
  ihave H := (agree s' (mLoc d) (m (mLoc d))) $$ [HSI Hm]
  · isplitl [HSI] <;> iassumption
  icases H with ⟨%h2, HSI⟩
  ihave H := (agree s' (iLoc d) (resI (lg m d))) $$ [HSI Hi]
  · isplitl [HSI] <;> iassumption
  icases H with ⟨%h3, HSI⟩
  ihave H := (agree s' (wLoc d) (resW (lg m d))) $$ [HSI Hw]
  · isplitl [HSI] <;> iassumption
  icases H with ⟨%h4, -⟩
  ipureintro; exact ⟨h1, h2, h3, h4⟩

/-- What the whole program leaves: the arguments as they were, the results those of the logits, every semaphore at 0. -/
def QC : PUnit × MemSt nD τ sig (Elt F) → Prop := fun r =>
  (∀ d : Dev nD, r.2.mem (xLoc d) = m (xLoc d) ∧ r.2.mem (mLoc d) = m (mLoc d) ∧ r.2.mem (iLoc d) = resI (lg m d) ∧ r.2.mem (wLoc d) = resW (lg m d)) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Topk

end
-- ==== Proof.Frames.lean ====
/-
  The frames: the kernel as printed, the kernel over the extended reals, and the reference each run to their end with their
  arguments as they were and every semaphore at zero.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Adequacy
public import Idealize.ShloMosaic.Init

@[expose] public section

noncomputable section

namespace Cert.Proof.Topk

open Idealize.ShloMosaic Idealize.SL.Sem

instance nonemptyBits (e : EltTy) : Nonempty (Elt Bits e) := by cases e <;> exact ⟨(0 : BitVec _)⟩

theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (Cert.KernelIdeal.threads (F := Bits)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := Bits)) _ _).mono (fun _ h => ⟨fun c => ⟨(h.1 c).1, (h.1 c).2.1⟩, h.2⟩) (run_main (F := Bits) m ρ)

/-- The kernel as printed and the kernel read over the extended reals are the same text: one body table. -/
theorem bodies_eq : Cert.Kernel.defs₀ (F := Bits) = Cert.KernelIdeal.defs₀ (F := Bits) := by
  funext p l a
  match p, l, a with
  | .tc, 0, _ => rfl
  | .scVector c s, 1, _ => rfl
  | .scVector c s, 0, _ => rfl
  | .tc, 1, _ => rfl
  | .scScalar _, 0, _ => rfl
  | .scScalar _, 1, _ => rfl

theorem defs_eq : Cert.Kernel.defs (F := Bits) = Cert.KernelIdeal.defs (F := Bits) :=
  congrArg (fun b => Cert.KernelIdeal.sc.defs (Pipeline.defs Cert.KernelIdeal.pcfgs b)) bodies_eq

theorem frame_kernel : Cert.quiescent_Kernel := fun m ρ _ => by
  rw [defs_eq]
  exact run_bits m ρ

theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (QC m) := run_main (F := Ideal) m ρ

theorem frame_ideal : Cert.quiescent_KernelIdeal := fun m ρ _ =>
  (θ_run (Cert.KernelIdeal.defs (F := Ideal)) _ _).mono (fun _ h => ⟨fun c => ⟨(h.1 c).1, (h.1 c).2.1⟩, h.2⟩) (run_ideal m ρ)

/-- The reference declares no semaphore at all. -/
theorem frame_reference : Cert.quiescent_ReferenceIdeal := fun m ρ _ =>
  (θ_run (Cert.ReferenceIdeal.defs (F := Ideal)) _ _).mono
    (fun _ h => ⟨fun c => (h c).2.2, sem_eq_zero_of_no_sems (by decide) _⟩) (Cert.ReferenceIdeal.Value.run (F := Ideal) m ρ)

end Cert.Proof.Topk

end
-- ==== Proof.Finite.lean ====
/-
  The precondition, decoded: every entry of the two arguments is a real number.
-/
module

public import proofs.«01_k».proof.Defs
public import proofs.«01_k».proof.Proof.Gen.Pre_finite
public import Idealize.ShloMosaic.Lib.ReduceAll
public import Idealize.ShloMosaic.PureOps.Ideal.Laws
public import Idealize.ShloMosaic.Lib.IdealHost

@[expose] public section

noncomputable section

namespace Cert.Proof.Topk

open Idealize.ShloMosaic
open Cert.Pre_finite

/-- The pattern the precondition compares with is plus infinity. -/
theorem plusInf : Ideal.ofBits .f32 0x7F800000#32 = ⊤ := by
  simp [Ideal.ofBits, Ideal.ieee]

/-- A number whose absolute value is below plus infinity is real. -/
theorem real_of_abs (a : EReal) (h : BitVec.ofBool (decide (max a (-a) < (⊤ : EReal))) = 1#1) : ∃ r : ℝ, a = r := by
  have hlt : max a (-a) < ⊤ := by
    by_contra c
    simp [c] at h
  induction a with
  | bot => simp at hlt
  | top => simp at hlt
  | coe r => exact ⟨r, rfl⟩

theorem and_one (a b : BitVec 1) (h : a &&& b = 1#1) : a = 1#1 ∧ b = 1#1 := by
  revert h; revert a b; decide

instance one_index : Subsingleton S_.Idx := ⟨fun _ _ => funext fun a => a.elim0⟩

theorem real_of_finite (x : FVec Ideal S4x4096x4096 .f32) (w : FVec Ideal S64x4096 .f32)
    (h : Cert.Pre_finite.fn (F := Ideal) x w = fun _ => 1#1) :
    (∀ i, ∃ r : ℝ, x i = (r : EReal)) ∧ (∀ i, ∃ r : ℝ, w i = (r : EReal)) := by
  have h0 := and_one _ _ (congrFun h (fun a => a.elim0))
  refine ⟨fun i => real_of_abs (x i) ?_, fun i => real_of_abs (w i) ?_⟩
  · rw [← plusInf]
    exact Host.reduce_andi_all _ _ _ _ _ h0.1 i
  · rw [← plusInf]
    exact Host.reduce_andi_all _ _ _ _ _ h0.2 i

end Cert.Proof.Topk

end
-- ==== Proof.Order.lean ====
/-
  The top eight as mathematics. Over the extended reals the kernel's insertion, run over a column whose entries are all
  above −∞, keeps the first eight positions of the column in the order "greater first, equal entries in the order of their
  positions" (`topN_eq`); and a stable sort by "greater" puts the positions in that same order (`sortedFrom_eq`).
-/
module

public import proofs.«01_k».proof.Proof.Lane
public import Idealize.ShloMosaic.PureOps.Ideal.Laws
public import Idealize.ShloMosaic.Lib.SortFacts

@[expose] public section

noncomputable section

namespace Cert.Proof.Topk

open Idealize.ShloMosaic

variable (h : Nat → EReal)

/-- Position `n` put into a list of positions, in front of the first one with a smaller entry. -/
def insertPos (n : Nat) : List Nat → List Nat
  | [] => [n]
  | b :: l => if h b < h n then n :: b :: l else b :: insertPos n l

/-- The first `n` positions, each put in turn into the list of the earlier ones. -/
def order : Nat → List Nat
  | 0 => []
  | n + 1 => insertPos h n (order n)

/-- Position `a` comes before position `b`: its entry is greater, or equal and `a` is the earlier position. -/
def Ahead (a b : Nat) : Prop := h b < h a ∨ (h a = h b ∧ a < b)

theorem Ahead.antisymm {a b : Nat} (p : Ahead h a b) (q : Ahead h b a) : a = b := by
  rcases p with p | ⟨e, p⟩ <;> rcases q with q | ⟨e', q⟩
  · exact absurd (p.trans q) (lt_irrefl _)
  · exact absurd (e' ▸ p) (lt_irrefl _)
  · exact absurd (e ▸ q) (lt_irrefl _)
  · omega

theorem Ahead.le {a b : Nat} (p : Ahead h a b) : h b ≤ h a := p.elim le_of_lt fun q => q.1.ge

theorem insertPos_perm (n : Nat) : ∀ l, (insertPos h n l).Perm (n :: l)
  | [] => .refl _
  | b :: l => by
    unfold insertPos
    split
    · exact .refl _
    · exact ((insertPos_perm n l).cons b).trans (.swap _ _ _)

theorem order_perm : ∀ n, (order h n).Perm (List.range n)
  | 0 => .refl _
  | n + 1 => by
    rw [List.range_succ]
    exact (insertPos_perm h n _).trans (((order_perm n).cons n).trans (List.perm_append_comm (l₁ := [n])))

theorem order_length (n : Nat) : (order h n).length = n := (order_perm h n).length_eq.trans List.length_range

theorem insertPos_sorted (n : Nat) : ∀ l : List Nat, (∀ b ∈ l, b < n) → l.Pairwise (Ahead h) → (insertPos h n l).Pairwise (Ahead h)
  | [], _, _ => List.pairwise_singleton _ _
  | b :: l, hb, hl => by
    have hl' := List.pairwise_cons.mp hl
    unfold insertPos
    split
    · next hlt =>
      refine List.pairwise_cons.mpr ⟨fun c hc => Or.inl ?_, hl⟩
      rcases List.mem_cons.mp hc with rfl | hc
      · exact hlt
      · exact (hl'.1 c hc).le.trans_lt hlt
    · next hge =>
      refine List.pairwise_cons.mpr ⟨fun c hc => ?_, insertPos_sorted n l (fun c hc => hb c (List.mem_cons_of_mem _ hc)) hl'.2⟩
      rcases List.mem_cons.mp ((insertPos_perm h n l).mem_iff.mp hc) with rfl | hc
      · rcases lt_or_eq_of_le (not_lt.mp hge) with p | p
        · exact Or.inl p
        · exact Or.inr ⟨p.symm, hb b List.mem_cons_self⟩
      · exact hl'.1 c hc

theorem order_sorted : ∀ n, (order h n).Pairwise (Ahead h)
  | 0 => List.Pairwise.nil
  | n + 1 => insertPos_sorted h n _ (fun _ hb => List.mem_range.mp ((order_perm h n).mem_iff.mp hb)) (order_sorted n)

/-- The entry at a place of a list of positions, −∞ where the list has ended. -/
abbrev valAt (o : Option Nat) : EReal := o.elim ⊥ h

theorem insertPos_head (n : Nat) (hn : ⊥ < h n) (l : List Nat) :
    (insertPos h n l)[0]? = if valAt h l[0]? < h n then some n else l[0]? := by
  cases l with
  | nil => simp [insertPos, hn]
  | cons b l =>
    unfold insertPos
    by_cases hb : h b < h n
    · simp [hb]
    · simp [hb]

theorem insertPos_next (n : Nat) (hn : ⊥ < h n) : ∀ (l : List Nat) (k : Nat), l.Pairwise (Ahead h) →
    (insertPos h n l)[k + 1]? = if valAt h l[k]? < h n then l[k]? else if valAt h l[k + 1]? < h n then some n else l[k + 1]?
  | [], k, _ => by simp [insertPos, hn]
  | b :: l, k, hl => by
    have hl' := List.pairwise_cons.mp hl
    unfold insertPos
    by_cases hb : h b < h n
    · rw [if_pos hb, List.getElem?_cons_succ]
      have hk : valAt h (b :: l)[k]? < h n := by
        rcases hc : (b :: l)[k]? with _ | c
        · exact hn
        · rcases List.mem_cons.mp (List.mem_of_getElem? hc) with rfl | hm
          · exact hb
          · exact (hl'.1 c hm).le.trans_lt hb
      rw [if_pos hk]
    · rw [if_neg hb, List.getElem?_cons_succ, List.getElem?_cons_succ]
      cases k with
      | zero => rw [insertPos_head h n hn l, List.getElem?_cons_zero, if_neg (show ¬ valAt h (some b) < h n from hb)]
      | succ k => rw [insertPos_next n hn l k hl'.2, List.getElem?_cons_succ]

/-! ## The kernel's running eight -/

theorem select_gt {α : Type} (x v : EReal) (y z : α) :
    Scalar.select (FloatOps.cmpf (F := Ideal) (φ := .f32) .ogt x v) y z = if v < x then y else z := by
  rw [Ideal.cmpf_def]
  by_cases c : v < x <;> simp [Scalar.select, Ideal.cmp, c]

theorem minusInf : Scalar.ofBits (F := Ideal) .f32 0xFF800000#32 = (⊥ : EReal) := by
  show Ideal.ofBits .f32 0xFF800000#32 = ⊥
  simp [Ideal.ofBits, Ideal.ieee]

/-- What the eight hold after `n` entries: the first eight places of the order, −∞ and 0 where there are fewer. -/
theorem topN_eq : ∀ n, (∀ e < n, ⊥ < h e) →
    topN (F := Ideal) h n = (fun j => valAt h (order h n)[j.val]?, fun j => ((order h n)[j.val]?).elim 0#32 (BitVec.ofNat 32))
  | 0, _ => by
    unfold topN
    rw [minusInf]
    rfl
  | n + 1, hn => by
    have hb := hn n (Nat.lt_succ_self n)
    unfold topN ins1
    rw [topN_eq n fun e he => hn e (Nat.lt_succ_of_lt he)]
    refine Prod.ext (funext fun j => ?_) (funext fun j => ?_)
    · refine Fin.cases ?_ (fun k => ?_) j
      · show Scalar.select _ _ _ = _
        rw [select_gt]
        show _ = valAt h (insertPos h n (order h n))[0]?
        rw [insertPos_head h n hb]
        by_cases c : valAt h (order h n)[0]? < h n
        · simp only [Fin.val_zero, if_pos c]; rfl
        · simp only [Fin.val_zero, if_neg c]
      · show Scalar.select _ _ (Scalar.select _ _ _) = _
        rw [select_gt, select_gt]
        show _ = valAt h (insertPos h n (order h n))[k.val + 1]?
        rw [insertPos_next h n hb _ _ (order_sorted h n)]
        simp only [Fin.val_castSucc, Fin.val_succ]
        by_cases c : valAt h (order h n)[k.val]? < h n
        · simp only [if_pos c]
        · by_cases c' : valAt h (order h n)[k.val + 1]? < h n
          · simp only [if_neg c, if_pos c']; rfl
          · simp only [if_neg c, if_neg c']
    · refine Fin.cases ?_ (fun k => ?_) j
      · show Scalar.select _ _ _ = _
        rw [select_gt]
        show _ = ((insertPos h n (order h n))[0]?).elim 0#32 (BitVec.ofNat 32)
        rw [insertPos_head h n hb]
        by_cases c : valAt h (order h n)[0]? < h n
        · simp only [Fin.val_zero, if_pos c]; rfl
        · simp only [Fin.val_zero, if_neg c]
      · show Scalar.select _ _ (Scalar.select _ _ _) = _
        rw [select_gt, select_gt]
        show _ = ((insertPos h n (order h n))[k.val + 1]?).elim 0#32 (BitVec.ofNat 32)
        rw [insertPos_next h n hb _ _ (order_sorted h n)]
        simp only [Fin.val_castSucc, Fin.val_succ]
        by_cases c : valAt h (order h n)[k.val]? < h n
        · simp only [if_pos c]
        · by_cases c' : valAt h (order h n)[k.val + 1]? < h n
          · simp only [if_neg c, if_pos c']; rfl
          · simp only [if_neg c, if_neg c']

/-! ## The stable sort -/

theorem insertBefore_sorted {n : Nat} (before : Fin n → Fin n → Bool) (hb : ∀ a b, before a b = decide (h b.val < h a.val)) (a : Fin n) :
    ∀ l : List (Fin n), (∀ b ∈ l, a < b) → l.Pairwise (fun b c => Ahead h b.val c.val) →
      (insertBefore before a l).Pairwise (fun b c => Ahead h b.val c.val)
  | [], _, _ => List.pairwise_singleton _ _
  | b :: l, hl, hs => by
    have hs' := List.pairwise_cons.mp hs
    unfold insertBefore
    rw [hb]
    by_cases c : h a.val < h b.val
    · rw [if_pos (decide_eq_true c)]
      refine List.pairwise_cons.mpr ⟨fun d hd => ?_, insertBefore_sorted before hb a l (fun b hb => hl b (List.mem_cons_of_mem _ hb)) hs'.2⟩
      rcases List.mem_cons.mp ((perm_insertBefore before a l).mem_iff.mp hd) with rfl | hd
      · exact Or.inl c
      · exact hs'.1 d hd
    · rw [if_neg (by simpa using c)]
      refine List.pairwise_cons.mpr ⟨fun d hd => ?_, hs⟩
      have hd' : a.val < d.val := hl d hd
      have hle : h d.val ≤ h a.val := by
        rcases List.mem_cons.mp hd with rfl | hm
        · exact not_lt.mp c
        · exact (hs'.1 d hm).le.trans (not_lt.mp c)
      rcases lt_or_eq_of_le hle with p | p
      · exact Or.inl p
      · exact Or.inr ⟨p.symm, hd'⟩

theorem stableSort_sorted {n : Nat} (before : Fin n → Fin n → Bool) (hb : ∀ a b, before a b = decide (h b.val < h a.val)) :
    ∀ l : List (Fin n), l.Pairwise (· < ·) → (stableSort before l).Pairwise (fun b c => Ahead h b.val c.val)
  | [], _ => List.Pairwise.nil
  | a :: l, hl => by
    have hl' := List.pairwise_cons.mp hl
    unfold stableSort
    exact insertBefore_sorted h before hb a _ (fun b hm => hl'.1 b ((perm_stableSort before l).mem_iff.mp hm)) (stableSort_sorted before hb l hl'.2)

/-- The stable sort by "greater first" lists the positions in the kernel's order. -/
theorem sortPositions_eq {n : Nat} (before : Fin n → Fin n → Bool) (hb : ∀ a b, before a b = decide (h b.val < h a.val)) :
    (sortPositions n before).map Fin.val = order h n := by
  refine List.Perm.eq_of_pairwise (le := Ahead h) (fun a b _ _ p q => p.antisymm h q) ?_ (order_sorted h n) ?_
  · rw [List.pairwise_map]
    exact stableSort_sorted h before hb _ (List.pairwise_lt_finRange n)
  · refine ((perm_sortPositions n before).map Fin.val).trans (.trans (.of_eq ?_) (order_perm h n).symm)
    exact List.map_coe_finRange_eq_range

theorem sortedFrom_eq {n : Nat} (before : Fin n → Fin n → Bool) (hb : ∀ a b, before a b = decide (h b.val < h a.val)) (k : Fin n) :
    (order h n)[k.val]? = some (sortedFrom before k).val := by
  rw [← sortPositions_eq h before hb, List.getElem?_map, List.getElem?_eq_getElem (by rw [length_sortPositions]; exact k.isLt)]
  rfl

/-- The first place holds the largest entry. -/
theorem order_le_head (n k : Nat) : valAt h (order h n)[k]? ≤ valAt h (order h n)[0]? := by
  have hs := order_sorted h n
  rcases hl : order h n with _ | ⟨b, l⟩
  · simp
  · rw [hl] at hs
    rcases hc : (b :: l)[k]? with _ | c
    · exact bot_le
    · rcases List.mem_cons.mp (List.mem_of_getElem? hc) with rfl | hm
      · exact le_refl _
      · exact ((List.pairwise_cons.mp hs).1 c hm).le

end Cert.Proof.Topk

end
-- ==== Proof.Logits.lean ====
/-
  The logits over the extended reals: entry (expert `e`, token `(b, t)`) of the kernel's blocked product is the inner product
  of row `e` of W with the token's row of x, and so is the reference's entry `(b, t, e)`. Where x and W are finite it is a
  real number.
-/
module

public import proofs.«01_k».proof.Proof.Region
public import proofs.«01_k».proof.Proof.Gen.ReferenceIdeal
public import Idealize.ShloMosaic.PureOps.Ideal.Laws
public import Idealize.ShloMosaic.Lib.KernelVsHost
public import Idealize.ShloMosaic.Lib.ValueIdx

@[expose] public section

noncomputable section

namespace Cert.Proof.Topk

open Cert.KernelIdeal Cert.KernelIdeal.Gen
open Idealize.ShloMosaic Idealize.ShloMosaic.ValueIdx
open scoped BigOperators

/-- The inner product of row `e` of W with the row of x of token `t` of batch row `b`. -/
def score (X : S4x4096x4096.Idx → EReal) (Wt : S64x4096.Idx → EReal) (b : Fin 4) (t : Fin 4096) (e : Fin 64) : EReal :=
  ∑ k : Fin 4096, Wt (ix2 e k) * X (ix3 b t k)

/-- A product of W with a block of 512 rows, read at an entry. -/
theorem block_apply (Wt : S64x4096.Idx → EReal) (B : S512x4096.Idx → EReal) (e : Fin 64) (r : Fin 512) :
    k0_pay1 (F := Ideal) Wt B (ix2 e r) = ∑ k : Fin 4096, Wt (ix2 e k) * B (ix2 r k) := by
  show FloatOps.matmul (φ₁ := .f32) (φ₂ := .f32) dot_S64x4096_S512x4096_S64x512_1_1_0_0_n_n none Wt (shapeCast S512x4096 B shapeCasts_S512x4096_S512x4096 : FVec Ideal S512x4096 .f32)
    (constant S64x512 .f32 0x00000000#32) (ix2 e r) = _
  rw [Ideal.matmul_constant_zero_apply, shapeCast_self,
    ← Equiv.sum_comp (contrEquiv1 dot_S64x4096_S512x4096_S64x512_1_1_0_0_n_n 4096 rfl rfl).symm]
  refine Finset.sum_congr rfl fun c _ => ?_
  have c2 := contrEquiv1_symm_val dot_S64x4096_S512x4096_S64x512_1_1_0_0_n_n 4096 rfl rfl c
  have l : dot_S64x4096_S512x4096_S64x512_1_1_0_0_n_n.lhsIdx (ix2 e r) ((contrEquiv1 _ 4096 rfl rfl).symm c) = ix2 e c := by
    funext a; apply Fin.ext
    match a with
    | ⟨0, _⟩ => simp [DotDims.lhsIdx, dot_S64x4096_S512x4096_S64x512_1_1_0_0_n_n]; rfl
    | ⟨1, _⟩ => simp [DotDims.lhsIdx, dot_S64x4096_S512x4096_S64x512_1_1_0_0_n_n]; exact c2
  have r' : dot_S64x4096_S512x4096_S64x512_1_1_0_0_n_n.rhsIdx (ix2 e r) ((contrEquiv1 _ 4096 rfl rfl).symm c) = ix2 r c := by
    funext a; apply Fin.ext
    match a with
    | ⟨0, _⟩ => simp [DotDims.rhsIdx, dot_S64x4096_S512x4096_S64x512_1_1_0_0_n_n]; rfl
    | ⟨1, _⟩ => simp [DotDims.rhsIdx, dot_S64x4096_S512x4096_S64x512_1_1_0_0_n_n]; exact c2
  rw [l, r']

/-- The reference's product, read at an entry. -/
theorem einsum_apply (X : S4x4096x4096.Idx → EReal) (Wt : S64x4096.Idx → EReal) (b : Fin 4) (t : Fin 4096) (e : Fin 64) :
    Host.dotGeneral (F := Ideal) (φ₁ := .f32) (φ₂ := .f32) Cert.ReferenceIdeal.dot_S4x4096x4096_S64x4096_S4x4096x64_2_1_01_0_n_n none X Wt (ix3 b t e)
      = score X Wt b t e := by
  show FloatOps.dotGeneral (F := Ideal) (φ₁ := .f32) (φ₂ := .f32) _ none _ X Wt (ix3 b t e) = _
  rw [Ideal.dotGeneral_apply,
    ← Equiv.sum_comp (contrEquiv1 Cert.ReferenceIdeal.dot_S4x4096x4096_S64x4096_S4x4096x64_2_1_01_0_n_n 4096 rfl rfl).symm]
  refine Finset.sum_congr rfl fun c _ => ?_
  have c2 := contrEquiv1_symm_val Cert.ReferenceIdeal.dot_S4x4096x4096_S64x4096_S4x4096x64_2_1_01_0_n_n 4096 rfl rfl c
  have l : Cert.ReferenceIdeal.dot_S4x4096x4096_S64x4096_S4x4096x64_2_1_01_0_n_n.lhsIdx (ix3 b t e) ((contrEquiv1 _ 4096 rfl rfl).symm c) = ix3 b t c := by
    funext a; apply Fin.ext
    match a with
    | ⟨0, _⟩ => simp [DotDims.lhsIdx, Cert.ReferenceIdeal.dot_S4x4096x4096_S64x4096_S4x4096x64_2_1_01_0_n_n]; rfl
    | ⟨1, _⟩ => simp [DotDims.lhsIdx, Cert.ReferenceIdeal.dot_S4x4096x4096_S64x4096_S4x4096x64_2_1_01_0_n_n]; rfl
    | ⟨2, _⟩ => simp [DotDims.lhsIdx, Cert.ReferenceIdeal.dot_S4x4096x4096_S64x4096_S4x4096x64_2_1_01_0_n_n]; exact c2
  have r : Cert.ReferenceIdeal.dot_S4x4096x4096_S64x4096_S4x4096x64_2_1_01_0_n_n.rhsIdx (ix3 b t e) ((contrEquiv1 _ 4096 rfl rfl).symm c) = ix2 e c := by
    funext a; apply Fin.ext
    match a with
    | ⟨0, _⟩ => simp [DotDims.rhsIdx, Cert.ReferenceIdeal.dot_S4x4096x4096_S64x4096_S4x4096x64_2_1_01_0_n_n]; rfl
    | ⟨1, _⟩ => simp [DotDims.rhsIdx, Cert.ReferenceIdeal.dot_S4x4096x4096_S64x4096_S4x4096x64_2_1_01_0_n_n]; exact c2
  rw [l, r]
  exact mul_comm _ _

/-- x flattened to one row per token. -/
theorem flat_apply (X : S4x4096x4096.Idx → EReal) (b : Fin 4) (t : Fin 4096) (k : Fin 4096) (z : S16384x4096.Idx)
    (h0 : (z 0).val = 4096 * b.val + t.val) (h1 : (z 1).val = k.val) :
    shapeCast S16384x4096 X shapeCasts_S4x4096x4096_S16384x4096 z = X (ix3 b t k) := by
  refine shapeCast_apply X _ z _ ?_
  rw [Shape.rowMajor_val_three, Shape.rowMajor_val_two]
  show (b.val * 4096 + t.val) * 4096 + k.val = (z 0).val * 4096 + (z 1).val
  rw [h0, h1]; ring

/-- The kernel's logits, read down a token's column. -/
theorem tok_logits (X : S4x4096x4096.Idx → EReal) (Wt : S64x4096.Idx → EReal) (j : S4x4096x8.Idx) (e : Fin 64) :
    tok (logits (F := Ideal) (shapeCast S16384x4096 X shapeCasts_S4x4096x4096_S16384x4096) Wt) j e.val = score X Wt (j 0) (j 1) e := by
  have h0 : (j 0).val < 4 := (j 0).isLt
  have h1 : (j 1).val < 4096 := (j 1).isLt
  have hc : 4096 * (j 0).val + (j 1).val < 16384 := by omega
  have y1 : ((ixg e.val (4096 * (j 0).val + (j 1).val)) 1).val = 4096 * (j 0).val + (j 1).val := Nat.mod_eq_of_lt hc
  have y0 : ((ixg e.val (4096 * (j 0).val + (j 1).val)) 0).val = e.val := Nat.mod_eq_of_lt e.isLt
  have hr : (4096 * (j 0).val + (j 1).val) % 512 < 512 := Nat.mod_lt _ (by decide)
  unfold tok logits
  have hb : inBlock (ixg e.val (4096 * (j 0).val + (j 1).val)) = ix2 e ⟨(4096 * (j 0).val + (j 1).val) % 512, hr⟩ := by
    funext a; apply Fin.ext
    match a with
    | ⟨0, _⟩ =>
      show ((ixg e.val (4096 * (j 0).val + (j 1).val)) 0).val % 64 = e.val
      rw [y0]; exact Nat.mod_eq_of_lt e.isLt
    | ⟨1, _⟩ =>
      show ((ixg e.val (4096 * (j 0).val + (j 1).val)) 1).val % 512 % 512 = (4096 * (j 0).val + (j 1).val) % 512
      rw [y1]; omega
  rw [hb, block_apply, y1]
  refine Finset.sum_congr rfl fun k _ => ?_
  congr 1
  refine flat_apply X (j 0) (j 1) k _ ?_ ?_
  · show (512 * ((4096 * (j 0).val + (j 1).val) / 512) + (4096 * (j 0).val + (j 1).val) % 512) % 16384 = _
    omega
  · show k.val % 4096 = k.val
    exact Nat.mod_eq_of_lt k.isLt

theorem sum_real {ι : Type} (s : Finset ι) (f : ι → EReal) (hf : ∀ i, ∃ r : ℝ, f i = r) : ∃ r : ℝ, ∑ i ∈ s, f i = r := by
  classical
  induction s using Finset.induction_on with
  | empty => exact ⟨0, rfl⟩
  | insert a s ha ih =>
    obtain ⟨r, hr⟩ := ih
    obtain ⟨q, hq⟩ := hf a
    exact ⟨q + r, by rw [Finset.sum_insert ha, hr, hq, EReal.coe_add]⟩

/-- Finite arguments have real logits. -/
theorem score_real (X : S4x4096x4096.Idx → EReal) (Wt : S64x4096.Idx → EReal) (hX : ∀ i, ∃ r : ℝ, X i = r) (hW : ∀ i, ∃ r : ℝ, Wt i = r)
    (b : Fin 4) (t : Fin 4096) (e : Fin 64) : ∃ r : ℝ, score X Wt b t e = r := by
  refine sum_real _ _ fun k => ?_
  obtain ⟨x, hx⟩ := hX (ix3 b t k)
  obtain ⟨w, hw⟩ := hW (ix2 e k)
  exact ⟨w * x, by rw [hx, hw, EReal.coe_mul]⟩

end Cert.Proof.Topk

end
-- ==== Proof.Softmax.lean ====
/-
  The weights over the extended reals: where the first of the eight values is the largest and a real number, the kernel's
  `exp (v j − v 0) · (1 / s)` is the softmax's `exp (v j − M) / s`, with `M` the maximum of the eight and `s` the sum of the
  eight exponentials.
-/
module

public import proofs.«01_k».proof.Proof.Lane
public import Idealize.ShloMosaic.PureOps.Ideal.Laws
public import Idealize.ShloMosaic.Lib.IdealHost

@[expose] public section

noncomputable section

namespace Cert.Proof.Topk

open Idealize.ShloMosaic
open scoped BigOperators

theorem exp_nonneg (x : EReal) : 0 ≤ Ideal.exp x := by
  induction x with
  | bot => exact le_refl _
  | top => exact le_top
  | coe r => exact EReal.coe_nonneg.mpr (Real.exp_pos r).le

theorem one_f32 : Scalar.ofBits (F := Ideal) .f32 0x3F800000#32 = (1 : EReal) :=
  Ideal.ofBits_one_f32

/-- The sum of the eight exponentials is not zero. -/
theorem sum_ne_zero (v : Fin 8 → EReal) (h0 : ∃ r : ℝ, v 0 = r) : ∑ i, Ideal.exp (v i - v 0) ≠ 0 := by
  obtain ⟨r, hr⟩ := h0
  have e1 : Ideal.exp (v 0 - v 0) = 1 := by
    rw [hr, ← EReal.coe_sub, sub_self]
    show ((Real.exp 0 : ℝ) : EReal) = 1
    rw [Real.exp_zero]; rfl
  have : (1 : EReal) ≤ ∑ i, Ideal.exp (v i - v 0) :=
    e1 ▸ Finset.single_le_sum (f := fun i => Ideal.exp (v i - v 0)) (fun i _ => exp_nonneg _) (Finset.mem_univ 0)
  exact (lt_of_lt_of_le zero_lt_one this).ne'

/-- The kernel's weight is the quotient. -/
theorem weight_eq (T : Eight Ideal) (h0 : ∃ r : ℝ, T.1 0 = (r : EReal)) (j : Fin 8) :
    weight (F := Ideal) T j = Ideal.div (Ideal.exp (T.1 j - T.1 0)) (∑ i, Ideal.exp (T.1 i - T.1 0)) := by
  have hs := sum_ne_zero T.1 h0
  have hsum : ∑ i, Ideal.exp (T.1 i - T.1 0) = Ideal.exp (T.1 0 - T.1 0) + Ideal.exp (T.1 1 - T.1 0) + Ideal.exp (T.1 2 - T.1 0)
      + Ideal.exp (T.1 3 - T.1 0) + Ideal.exp (T.1 4 - T.1 0) + Ideal.exp (T.1 5 - T.1 0) + Ideal.exp (T.1 6 - T.1 0) + Ideal.exp (T.1 7 - T.1 0) :=
    Fin.sum_univ_eight _
  unfold weight
  rw [one_f32]
  show Ideal.exp (T.1 j - T.1 0) * Ideal.div 1 (Ideal.exp (T.1 0 - T.1 0) + Ideal.exp (T.1 1 - T.1 0) + Ideal.exp (T.1 2 - T.1 0)
      + Ideal.exp (T.1 3 - T.1 0) + Ideal.exp (T.1 4 - T.1 0) + Ideal.exp (T.1 5 - T.1 0) + Ideal.exp (T.1 6 - T.1 0) + Ideal.exp (T.1 7 - T.1 0)) = _
  rw [← hsum]
  unfold Ideal.div
  rw [if_neg hs, if_neg hs, one_mul]

end Cert.Proof.Topk

end
-- ==== Proof.TopkRef.lean ====
/-
  The reference over the extended reals, read at an entry: its `top_k` of the logits gives the eight values and indices that
  the kernel's insertion keeps, and its softmax of them the kernel's weights.
-/
module

public import proofs.«01_k».proof.Proof.Order
public import proofs.«01_k».proof.Proof.Logits
public import proofs.«01_k».proof.Proof.Softmax
public import Idealize.ShloMosaic.PureOps.Reduce

@[expose] public section

noncomputable section

namespace Cert.Proof.Topk

open Idealize.ShloMosaic Idealize.ShloMosaic.ValueIdx
open scoped BigOperators

/-! ## The top eight -/

/-- A stable top-k read at an entry: `J` the entry's place in the operand and `g` the row through it, the place the row's sort
    puts there. -/
theorem topK_row {s t : Shape} {α : Type} (d : Nat) (gt : α → α → BitVec 1) (x : s.Idx → α) (h : s.Slices (fun _ => 0) t)
    (hd : d < s.rank) (j : t.Idx) (J : s.Idx) (hJ : ∀ a, (J a).val = (j (a.cast h.1.symm)).val)
    (g : Fin (s.size ⟨d, hd⟩) → α) (hg : ∀ k, x (J.along ⟨d, hd⟩ k) = g k) :
    (Host.topK t d gt x h).1 j = g (sortedFrom (fun k k' => gt (g k) (g k') == 1#1) (J ⟨d, hd⟩))
    ∧ (Host.topK t d gt x h).2 j = BitVec.ofNat 32 (sortedFrom (fun k k' => gt (g k) (g k') == 1#1) (J ⟨d, hd⟩)).val := by
  have hj : (fun a => ⟨0 + (j (a.cast h.1.symm)).val, Nat.lt_of_lt_of_le (Nat.add_lt_add_left (j _).isLt _) (h.2 a)⟩ : s.Idx) = J :=
    funext fun a => Fin.ext ((Nat.zero_add _).trans (hJ a).symm)
  unfold Host.topK Host.sort2 extractStridedSlice
  simp only [dif_pos hd, hj, hg]
  refine ⟨trivial, ?_⟩
  unfold iotaInDim Shape.Idx.along
  simp only [Function.update_self]

attribute [local irreducible] order topN sortedFrom Host.topK

section Top

open Cert.KernelIdeal
open Cert.ReferenceIdeal (S4x4096x64)

variable (G : S4x4096x64.Idx → EReal) (hs : S4x4096x64.Slices (fun _ => 0) S4x4096x8)

/-- The place in a token's row that the reference's stable sort puts at place `k`. -/
def srcOf (b : Fin 4) (t : Fin 4096) (k : Fin 64) : Fin 64 :=
  sortedFrom (fun e e' => FloatOps.cmpfTotal (F := Ideal) (φ := .f32) .gt (G (ix3 b t e)) (G (ix3 b t e')) == 1#1) k

/-- A place among the eight as a place among the 64. -/
def up (k : Fin 8) : Fin 64 := ⟨k.val, by omega⟩

theorem two_lt : 2 < S4x4096x64.rank := by decide

theorem along_ix3 (b : Fin 4) (t : Fin 4096) (k e : Fin 64) :
    Shape.Idx.along (s := S4x4096x64) (ix3 b t k) ⟨2, two_lt⟩ e = ix3 b t e := by
  unfold Shape.Idx.along
  funext a
  match a with
  | ⟨0, _⟩ => exact Function.update_of_ne (fun h => absurd (congrArg Fin.val h) (by decide : ¬ 0 = 2)) _ _
  | ⟨1, _⟩ => exact Function.update_of_ne (fun h => absurd (congrArg Fin.val h) (by decide : ¬ 1 = 2)) _ _
  | ⟨2, _⟩ => exact Function.update_self _ _ _

theorem topK_vals (j : S4x4096x8.Idx) :
    (Host.topK S4x4096x8 2 (FloatOps.cmpfTotal (F := Ideal) (φ := .f32) .gt) G hs).1 j = G (ix3 (j 0 : Fin 4) (j 1 : Fin 4096) (srcOf G (j 0) (j 1) (up (j 2))))
    ∧ (Host.topK S4x4096x8 2 (FloatOps.cmpfTotal (F := Ideal) (φ := .f32) .gt) G hs).2 j = BitVec.ofNat 32 (srcOf G (j 0) (j 1) (up (j 2))).val :=
  topK_row 2 (FloatOps.cmpfTotal (F := Ideal) (φ := .f32) .gt) G hs two_lt j (ix3 (j 0 : Fin 4) (j 1 : Fin 4096) (up (j 2)))
    (fun a => match a with
      | ⟨0, _⟩ => rfl
      | ⟨1, _⟩ => rfl
      | ⟨2, _⟩ => rfl)
    (fun e : Fin 64 => G (ix3 (j 0 : Fin 4) (j 1 : Fin 4096) e)) (fun k => congrArg G (along_ix3 _ _ _ k))

/-- Where a column `h` holds a token's row of logits, the sort's places are the kernel's order. -/
theorem order_src (h : Nat → EReal) (b : Fin 4) (t : Fin 4096) (hh : ∀ e : Fin 64, h e.val = G (ix3 b t e)) (k : Fin 64) :
    (order h 64)[k.val]? = some (srcOf G b t k).val := by
  refine sortedFrom_eq h _ (fun e e' => ?_) k
  rw [Ideal.cmpfTotal_def, hh, hh]
  show (BitVec.ofBool (decide _) == 1#1) = _
  by_cases c : G (ix3 b t e') < G (ix3 b t e) <;> simp [c]

/-- The kernel's eight are the reference's top eight. -/
theorem top_eq (h : Nat → EReal) (j : S4x4096x8.Idx) (hh : ∀ e : Fin 64, h e.val = G (ix3 (j 0 : Fin 4) (j 1 : Fin 4096) e))
    (hb : ∀ e : Fin 64, ⊥ < h e.val) :
    (topN (F := Ideal) h 64).1 (j 2) = (Host.topK S4x4096x8 2 (FloatOps.cmpfTotal (F := Ideal) (φ := .f32) .gt) G hs).1 j
    ∧ (topN (F := Ideal) h 64).2 (j 2) = (Host.topK S4x4096x8 2 (FloatOps.cmpfTotal (F := Ideal) (φ := .f32) .gt) G hs).2 j := by
  have o := order_src G h (j 0) (j 1) hh (up (j 2))
  rw [topN_eq h 64 fun e he => hb ⟨e, he⟩, (topK_vals G hs j).1, (topK_vals G hs j).2]
  refine ⟨?_, ?_⟩
  · show valAt h (order h 64)[(up (j 2)).val]? = _
    rw [o]
    exact hh _
  · show ((order h 64)[(up (j 2)).val]?).elim 0#32 (BitVec.ofNat 32) = _
    rw [o]
    rfl

end Top

/-! ## The softmax -/

section Soft

open Cert.ReferenceIdeal Cert.ReferenceIdeal.Gen

variable (v : FVec Ideal S4x4096x8 .f32)

theorem reduces8 : S4x4096x8.Reduces [2] S4x4096 := by decide

/-- The largest of a token's eight values, as the reference computes it. -/
abbrev maxOf : FVec Ideal S4x4096 .f32 :=
  maximumf (broadcastInDim S4x4096 ![] bcast_S_S4x4096 (constant S_ .f32 0xFF800000#32))
    (Host.reduce FloatOps.maximumf v (constant S_ .f32 0xFF800000#32) reducesTo_S4x4096x8_S4x4096_d2 h_S_)

/-- A number per token laid along its eight places. -/
abbrev along8 (y : FVec Ideal S4x4096 .f32) : FVec Ideal S4x4096x8 .f32 :=
  broadcastInDim S4x4096x8 ![0, 1, 2] bcast_S4x4096x1_S4x4096x8_0_1_2 (broadcastInDim S4x4096x1 ![0, 1] bcast_S4x4096_S4x4096x1_0_1 y)

/-- The exponentials. -/
abbrev exps : FVec Ideal S4x4096x8 .f32 := Host.exp (subf v (along8 (maxOf v)))

/-- The reference's softmax of a row of eight. -/
abbrev soft : FVec Ideal S4x4096x8 .f32 :=
  Host.divf (exps v) (along8 (Host.reduceAdd (exps v) (constant S_ .f32 0x00000000#32) reducesTo_S4x4096x8_S4x4096_d2 h_S_))

theorem along8_apply (y : FVec Ideal S4x4096 .f32) (j : S4x4096x8.Idx) : along8 y j = y (ix2 (j 0 : Fin 4) (j 1 : Fin 4096)) := by
  refine (broadcastInDim_apply _ _ _ j (ix3 (j 0 : Fin 4) (j 1 : Fin 4096) (0 : Fin 1)) fun a => ?_).trans
    (broadcastInDim_apply _ _ _ _ (ix2 (j 0 : Fin 4) (j 1 : Fin 4096)) fun a => ?_)
  · match a with
    | ⟨0, _⟩ => rfl
    | ⟨1, _⟩ => rfl
    | ⟨2, _⟩ => rfl
  · match a with
    | ⟨0, _⟩ => rfl
    | ⟨1, _⟩ => rfl

theorem lift_ix (b : Fin 4) (t : Fin 4096) (k : Fin 8) : reduces8.lift (ix2 b t) k = ix3 b t k := by
  funext a
  match a with
  | ⟨0, _⟩ => rfl
  | ⟨1, _⟩ => rfl
  | ⟨2, _⟩ => rfl

/-- Where the first of the eight is the largest, it is the maximum the reference takes. -/
theorem maxOf_apply (b : Fin 4) (t : Fin 4096) (hm : ∀ k : Fin 8, v (ix3 b t k) ≤ v (ix3 b t (0 : Fin 8))) : maxOf v (ix2 b t) = v (ix3 b t (0 : Fin 8)) := by
  show max (Ideal.ofBits .f32 0xFF800000#32) (Host.reduce (α := EReal) max v (constant (F := Ideal) S_ .f32 0xFF800000#32) reducesTo_S4x4096x8_S4x4096_d2 h_S_ (ix2 b t)) = _
  rw [Host.reduce_eq_fold_single max v _ reducesTo_S4x4096x8_S4x4096_d2 reduces8 h_S_]
  have hbot : Ideal.ofBits .f32 0xFF800000#32 = ⊥ := minusInf
  show max (Ideal.ofBits .f32 0xFF800000#32) (Finset.fold max (Ideal.ofBits .f32 0xFF800000#32) (v ∘ reduces8.lift (ix2 b t)) Finset.univ) = _
  rw [hbot, max_eq_right bot_le]
  refine le_antisymm ((Finset.fold_max_le _).mpr ⟨bot_le, fun k _ => ?_⟩) ((Finset.le_fold_max _).mpr (Or.inr ⟨(0 : Fin 8), Finset.mem_univ _, ?_⟩))
  · show v (reduces8.lift (ix2 b t) k) ≤ _
    exact (congrArg v (lift_ix b t k)).trans_le (hm k)
  · exact (congrArg v (lift_ix b t 0)).ge

/-- The softmax, read at an entry. -/
theorem soft_apply (j : S4x4096x8.Idx)
    (hm : ∀ k : Fin 8, v (ix3 (j 0 : Fin 4) (j 1 : Fin 4096) k) ≤ v (ix3 (j 0 : Fin 4) (j 1 : Fin 4096) (0 : Fin 8))) :
    soft v j = Ideal.div (Ideal.exp (v j - v (ix3 (j 0 : Fin 4) (j 1 : Fin 4096) (0 : Fin 8))))
      (∑ k : Fin 8, Ideal.exp (v (ix3 (j 0 : Fin 4) (j 1 : Fin 4096) k) - v (ix3 (j 0 : Fin 4) (j 1 : Fin 4096) (0 : Fin 8)))) := by
  have he : ∀ i : S4x4096x8.Idx, i 0 = j 0 → i 1 = j 1 → exps v i = Ideal.exp (v i - v (ix3 (j 0 : Fin 4) (j 1 : Fin 4096) (0 : Fin 8))) := by
    intro i h0 h1
    show Ideal.exp (v i - along8 (maxOf v) i) = _
    rw [along8_apply, h0, h1, maxOf_apply v _ _ hm]
  show Ideal.div (exps v j) (along8 _ j) = _
  rw [he j rfl rfl, along8_apply]
  congr 1
  show Ideal.hostReduceAdd reducesTo_S4x4096x8_S4x4096_d2 (exps v) (Ideal.ofBits .f32 0x00000000#32) _ = _
  rw [Ideal.hostReduceAdd_single _ reduces8, Ideal.ofBits_zero_f32, zero_add]
  refine Finset.sum_congr rfl fun k _ => ?_
  exact (congrArg (exps v) (lift_ix (j 0) (j 1) k)).trans (he _ rfl rfl)

end Soft

/-! ## The two results -/

section Results

open Cert.KernelIdeal Cert.KernelIdeal.Gen
open Cert.ReferenceIdeal (S4x4096x64)

variable (X : S4x4096x4096.Idx → EReal) (Wt : S64x4096.Idx → EReal) (hX : ∀ i, ∃ r : ℝ, X i = r) (hW : ∀ i, ∃ r : ℝ, Wt i = r)

/-- The kernel's logits, and the reference's. -/
abbrev kLogits : S64x16384.Idx → EReal := logits (F := Ideal) (shapeCast S16384x4096 X shapeCasts_S4x4096x4096_S16384x4096) Wt
abbrev rLogits : S4x4096x64.Idx → EReal :=
  Host.dotGeneral (F := Ideal) (φ₁ := .f32) (φ₂ := .f32) Cert.ReferenceIdeal.dot_S4x4096x4096_S64x4096_S4x4096x64_2_1_01_0_n_n none X Wt
abbrev rTop : (S4x4096x8.Idx → EReal) × IVec S4x4096x8 32 :=
  Host.topK S4x4096x8 2 (FloatOps.cmpfTotal (F := Ideal) (φ := .f32) .gt) (rLogits X Wt) Cert.ReferenceIdeal.Gen.sliceFits_S4x4096x64_S4x4096x8

theorem tok_eq (j : S4x4096x8.Idx) (e : Fin 64) : tok (F := Ideal) (kLogits X Wt) j e.val = rLogits X Wt (ix3 (j 0 : Fin 4) (j 1 : Fin 4096) e) :=
  (tok_logits X Wt j e).trans (einsum_apply X Wt _ _ e).symm

include hX hW

theorem tok_real (j : S4x4096x8.Idx) (e : Fin 64) : ∃ r : ℝ, tok (F := Ideal) (kLogits X Wt) j e.val = r := by
  rw [tok_logits]; exact score_real X Wt hX hW _ _ e

theorem tok_bot (j : S4x4096x8.Idx) (e : Fin 64) : ⊥ < tok (F := Ideal) (kLogits X Wt) j e.val := by
  obtain ⟨r, hr⟩ := tok_real X Wt hX hW j e
  rw [hr]; exact EReal.bot_lt_coe r

/-- The indices agree. -/
theorem resI_eq : resI (F := Ideal) (kLogits X Wt) = (rTop X Wt).2 := by
  funext j
  exact (top_eq (rLogits X Wt) _ (tok (F := Ideal) (kLogits X Wt) j) j (tok_eq X Wt j) (tok_bot X Wt hX hW j)).2

theorem val_eq (j : S4x4096x8.Idx) (k : Fin 8) :
    (topN (F := Ideal) (tok (F := Ideal) (kLogits X Wt) j) 64).1 k = (rTop X Wt).1 (ix3 (j 0 : Fin 4) (j 1 : Fin 4096) k) :=
  (top_eq (rLogits X Wt) _ (tok (F := Ideal) (kLogits X Wt) j) (ix3 (j 0 : Fin 4) (j 1 : Fin 4096) k) (tok_eq X Wt j) (tok_bot X Wt hX hW j)).1

/-- The weights agree. -/
theorem resW_eq : resW (F := Ideal) (kLogits X Wt) = soft (rTop X Wt).1 := by
  funext j
  have hv := val_eq X Wt hX hW j
  have hn := topN_eq (tok (F := Ideal) (kLogits X Wt) j) 64 fun e he => tok_bot X Wt hX hW j ⟨e, he⟩
  have h0 : ∃ r : ℝ, (topN (F := Ideal) (tok (F := Ideal) (kLogits X Wt) j) 64).1 0 = (r : EReal) := by
    rw [hn]
    show ∃ r : ℝ, valAt (tok (F := Ideal) (kLogits X Wt) j) (order (tok (F := Ideal) (kLogits X Wt) j) 64)[(up 0).val]? = (r : EReal)
    rw [order_src (rLogits X Wt) _ (j 0) (j 1) (tok_eq X Wt j) (up 0)]
    exact tok_real X Wt hX hW j _
  have hle : ∀ k : Fin 8, (topN (F := Ideal) (tok (F := Ideal) (kLogits X Wt) j) 64).1 k ≤ (topN (F := Ideal) (tok (F := Ideal) (kLogits X Wt) j) 64).1 0 := by
    intro k
    rw [hn]
    exact order_le_head _ 64 k.val
  have hm : ∀ k : Fin 8, (rTop X Wt).1 (ix3 (j 0 : Fin 4) (j 1 : Fin 4096) k) ≤ (rTop X Wt).1 (ix3 (j 0 : Fin 4) (j 1 : Fin 4096) (0 : Fin 8)) := by
    intro k
    rw [← hv k, ← hv 0]
    exact hle k
  rw [soft_apply _ j hm]
  refine (weight_eq (topN (F := Ideal) (tok (F := Ideal) (kLogits X Wt) j) 64) h0 (j 2)).trans ?_
  have hj : (topN (F := Ideal) (tok (F := Ideal) (kLogits X Wt) j) 64).1 (j 2) = (rTop X Wt).1 j :=
    (hv (j 2)).trans (congrArg (rTop X Wt).1 (eq_ix3 j).symm)
  rw [hj, hv 0]
  congr 1
  exact Finset.sum_congr rfl fun k _ => by rw [hv k]

end Results

end Cert.Proof.Topk

end
-- ==== Proof.Algebraic.lean ====
/-
  The value claim: over the extended reals, from finite arguments, the kernel and the reference end with the same indices
  and the same weights.
-/
module

public import proofs.«01_k».proof.Proof.Frames
public import proofs.«01_k».proof.Proof.Finite
public import proofs.«01_k».proof.Proof.TopkRef

@[expose] public section

noncomputable section

namespace Cert.Proof.Topk

open Idealize.ShloMosaic Idealize.SL.Sem

theorem algebraic : Cert.algebraic_KernelIdeal_ReferenceIdeal_pre_finite := fun m g m' g' hpre hargs => by
  have hfin : ∀ c : Dev Cert.KernelIdeal.nD, _ := fun c => real_of_finite _ _ (hpre c)
  refine ⟨fun c => resI (F := Ideal) (lg m c), fun c => resW (F := Ideal) (lg m c), ?_, ?_⟩
  · exact (θ_run (Cert.KernelIdeal.defs (F := Ideal)) _ _).mono
      (fun _ h c => ⟨(h.1 c).2.2.1, (h.1 c).2.2.2, (h.1 c).1, (h.1 c).2.1⟩) (run_ideal m g)
  · refine (θ_run (Cert.ReferenceIdeal.defs (F := Ideal)) _ _).mono (fun _ h c => ?_) (Cert.ReferenceIdeal.Value.run (F := Ideal) m' g')
    obtain ⟨hi, hw, hx, hm⟩ := h c
    refine ⟨hi.trans ?_, hw.trans ?_, hx, hm⟩
    · rw [(hargs c).1, (hargs c).2]
      exact (resI_eq _ _ (hfin c).1 (hfin c).2).symm
    · rw [(hargs c).1, (hargs c).2]
      exact (resW_eq _ _ (hfin c).1 (hfin c).2).symm

end Cert.Proof.Topk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    Topk.frame_kernel, Topk.frame_ideal, fun m g _ => Topk.frame_ideal m g trivial, Topk.frame_reference,
    fun m g _ => Topk.frame_reference m g trivial, trivial, Topk.algebraic⟩

end Cert.Proof

end
